-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 2, 128]⟩ ⟨4, ![1, 65536, 2, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 2, 128]⟩ ⟨4, ![1, 65536, 2, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x2x128 : Shape := ⟨4, ![1, 4096, 2, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x2x128 : S_.BroadcastsInDim S1x4096x2x128 (![] : Fin 0 → Fin S1x4096x2x128.rank)
  reducesTo_S1x4096x2x128_S_d0_1_2_3 : S1x4096x2x128.ReducesTo [0, 1, 2, 3] S_

variable [Facts]

def fn {F : FTy → Type} [FloatOps F] (main_arg0 : FVec F S1x256x1024 .bf16) (main_arg1 : FVec F S1024x1024 .bf16) (main_arg2 : FVec F S1x4096x2x128 .bf16) (main_arg3 : FVec F S1x4096x2x128 .bf16) (main_arg4 : FVec F S1024x1024 .bf16) : IVec S_ 1 × IVec S_ 1 × IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x4096x2x128 .bf16 := Host.absf main_arg2
  let main_cst_2 : FVec F S_ .bf16 := constant S_ .bf16 0x7F80#16
  let main_v9 : FVec F S1x4096x2x128 .bf16 := broadcastInDim S1x4096x2x128 ![] bcast_S_S1x4096x2x128 main_cst_2
  let main_v10 : IVec S1x4096x2x128 1 := cmpf .olt main_v8 main_v9
  let main_c_3 : IVec S_ 1 := constantI S_ 1 1#1
  let main_v11 : IVec S_ 1 := (fun x v => Host.reduce IntOp.andi x v reducesTo_S1x4096x2x128_S_d0_1_2_3 h_S_) main_v10 main_c_3
  (main_v3, main_v7, main_v11)
-- ==== Pre_finite_ReferenceIdeal.lean ====
abbrev S1x256x1024 : Shape := ⟨3, ![1, 256, 1024]⟩
abbrev S1024x1024 : Shape := ⟨2, ![1024, 1024]⟩
abbrev S1x65536x2x128 : Shape := ⟨4, ![1, 65536, 2, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x65536x2x128 : S_.BroadcastsInDim S1x65536x2x128 (![] : Fin 0 → Fin S1x65536x2x128.rank)
  reducesTo_S1x65536x2x128_S_d0_1_2_3 : S1x65536x2x128.ReducesTo [0, 1, 2, 3] S_

variable [Facts]

def fn {F : FTy → Type} [FloatOps F] (main_arg0 : FVec F S1x256x1024 .bf16) (main_arg1 : FVec F S1024x1024 .bf16) (main_arg2 : FVec F S1x65536x2x128 .bf16) (main_arg3 : FVec F S1x65536x2x128 .bf16) (main_arg4 : FVec F S1024x1024 .bf16) : IVec S_ 1 × IVec S_ 1 × IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x65536x2x128 .bf16 := Host.absf main_arg2
  let main_cst_2 : FVec F S_ .bf16 := constant S_ .bf16 0x7F80#16
  let main_v9 : FVec F S1x65536x2x128 .bf16 := broadcastInDim S1x65536x2x128 ![] bcast_S_S1x65536x2x128 main_cst_2
  let main_v10 : IVec S1x65536x2x128 1 := cmpf .olt main_v8 main_v9
  let main_c_3 : IVec S_ 1 := constantI S_ 1 1#1
  let main_v11 : IVec S_ 1 := (fun x v => Host.reduce IntOp.andi x v reducesTo_S1x65536x2x128_S_d0_1_2_3 h_S_) main_v10 main_c_3
  (main_v3, main_v7, main_v11)
-- ==== Kernel.lean ====
abbrev S1x256x1024 : Shape := ⟨3, ![1, 256, 1024]⟩
abbrev S1024x1024 : Shape := ⟨2, ![1024, 1024]⟩
abbrev S1x4096x2x128 : Shape := ⟨4, ![1, 4096, 2, 128]⟩
abbrev S256x1024 : Shape := ⟨2, ![256, 1024]⟩
abbrev S4096x256 : Shape := ⟨2, ![4096, 256]⟩
abbrev S8x258x128 : Shape := ⟨3, ![8, 258, 128]⟩
abbrev S8x4x258x128 : Shape := ⟨4, ![8, 4, 258, 128]⟩
abbrev S8x4 : Shape := ⟨2, ![8, 4]⟩
abbrev S_ : Shape := ⟨0, ![]⟩
abbrev S256x128 : Shape := ⟨2, ![256, 128]⟩
abbrev S2x256 : Shape := ⟨2, ![2, 256]⟩
abbrev S256x2 : Shape := ⟨2, ![256, 2]⟩
abbrev S4096x128 : Shape := ⟨2, ![4096, 128]⟩
abbrev S256x4096 : Shape := ⟨2, ![256, 4096]⟩
abbrev S256x256 : Shape := ⟨2, ![256, 256]⟩
abbrev S2x128 : Shape := ⟨2, ![2, 128]⟩
abbrev S1x256x128 : Shape := ⟨3, ![1, 256, 128]⟩
abbrev S1x2x128 : Shape := ⟨3, ![1, 2, 128]⟩
abbrev S1x1 : Shape := ⟨2, ![1, 1]⟩
abbrev S1x1x258x128 : Shape := ⟨4, ![1, 1, 258, 128]⟩
abbrev S258x128 : Shape := ⟨2, ![258, 128]⟩
abbrev S1x258x128 : Shape := ⟨3, ![1, 258, 128]⟩
abbrev S256 : Shape := ⟨1, ![256]⟩
abbrev S256x1 : Shape := ⟨2, ![256, 1]⟩
abbrev S128x1024 : Shape := ⟨2, ![128, 1024]⟩

abbrev nBuf : Space → Nat
  | .hbm => 10
  | .vmem => 9
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x2x128, .bf16⟩
  | .hbm, ⟨3, _⟩ => ⟨S1x4096x2x128, .bf16⟩
  | .hbm, ⟨4, _⟩ => ⟨S1024x1024, .bf16⟩
  | .hbm, ⟨5, _⟩ => ⟨S256x1024, .bf16⟩
  | .hbm, ⟨6, _⟩ => ⟨S4096x256, .bf16⟩
  | .hbm, ⟨7, _⟩ => ⟨S4096x256, .bf16⟩
  | .hbm, ⟨8, _⟩ => ⟨S256x1024, .f32⟩
  | .hbm, ⟨9, _⟩ => ⟨S1x256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4096x256, .bf16⟩
  | .local _ .vmem, ⟨4, _⟩ => ⟨S4096x256, .bf16⟩
  | .local _ .vmem, ⟨5, _⟩ => ⟨S256x1024, .f32⟩
  | .local _ .vmem, ⟨6, _⟩ => ⟨S8x258x128, .f32⟩
  | .local _ .vmem, ⟨7, _⟩ => ⟨S8x258x128, .bf16⟩
  | .local _ .vmem, ⟨8, _⟩ => ⟨S8x4x258x128, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_58 : BitVec 32 := 1#32
  let v137 : BitVec 32 := Scalar.xori v2 c1_i32_58
  let c1_i32_66 : BitVec 32 := 1#32
  let v138 : BitVec 32 := Scalar.muli v137 c1_i32_66
  let v139 : BitVec 32 := Scalar.addi c0_i32_67 v138
  v139.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_86 : BitVec 32 := 2#32
  let v171 : BitVec 32 := Scalar.xori v2 c2_i32_86
  let c1_i32_94 : BitVec 32 := 1#32
  let v172 : BitVec 32 := Scalar.muli v171 c1_i32_94
  let v173 : BitVec 32 := Scalar.addi c0_i32_95 v172
  v173.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_114 : BitVec 32 := 4#32
  let v205 : BitVec 32 := Scalar.xori v2 c4_i32_114
  let c1_i32_122 : BitVec 32 := 1#32
  let v206 : BitVec 32 := Scalar.muli v205 c1_i32_122
  let v207 : BitVec 32 := Scalar.addi c0_i32_123 v206
  v207.toNat
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_142 : BitVec 32 := 8#32
  let v239 : BitVec 32 := Scalar.xori v2 c8_i32_142
  let c1_i32_149 : BitVec 32 := 1#32
  let v240 : BitVec 32 := Scalar.muli v239 c1_i32_149
  let v241 : BitVec 32 := Scalar.addi c0_i32_150 v240
  v241.toNat
def k0_dev9 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_169 : BitVec 32 := 1#32
  let v273 : BitVec 32 := Scalar.xori v2 c1_i32_169
  let c1_i32_177 : BitVec 32 := 1#32
  let v274 : BitVec 32 := Scalar.muli v273 c1_i32_177
  let v275 : BitVec 32 := Scalar.addi c0_i32_178 v274
  v275.toNat
def k0_dev10 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_197 : BitVec 32 := 2#32
  let v307 : BitVec 32 := Scalar.xori v2 c2_i32_197
  let c1_i32_204 : BitVec 32 := 1#32
  let v308 : BitVec 32 := Scalar.muli v307 c1_i32_204
  let v309 : BitVec 32 := Scalar.addi c0_i32_205 v308
  v309.toNat
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_224 : BitVec 32 := 4#32
  let v341 : BitVec 32 := Scalar.xori v2 c4_i32_224
  let c1_i32_231 : BitVec 32 := 1#32
  let v342 : BitVec 32 := Scalar.muli v341 c1_i32_231
  let v343 : BitVec 32 := Scalar.addi c0_i32_232 v342
  v343.toNat
def k0_dev12 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_251 : BitVec 32 := 8#32
  let v375 : BitVec 32 := Scalar.xori v2 c8_i32_251
  let c1_i32_258 : BitVec 32 := 1#32
  let v376 : BitVec 32 := Scalar.muli v375 c1_i32_258
  let v377 : BitVec 32 := Scalar.addi c0_i32_259 v376
  v377.toNat
def k0_dev13 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_303 : BitVec 32 := 2#32
  let v414 : BitVec 32 := Scalar.xori v2 c2_i32_303
  let c1_i32_311 : BitVec 32 := 1#32
  let v415 : BitVec 32 := Scalar.muli v414 c1_i32_311
  let v416 : BitVec 32 := Scalar.addi c0_i32_312 v415
  v416.toNat
def k0_dev14 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_355 : BitVec 32 := 4#32
  let v452 : BitVec 32 := Scalar.xori v2 c4_i32_355
  let c1_i32_363 : BitVec 32 := 1#32
  let v453 : BitVec 32 := Scalar.muli v452 c1_i32_363
  let v454 : BitVec 32 := Scalar.addi c0_i32_364 v453
  v454.toNat
def k0_dev15 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_407 : BitVec 32 := 8#32
  let v490 : BitVec 32 := Scalar.xori v2 c8_i32_407
  let c1_i32_415 : BitVec 32 := 1#32
  let v491 : BitVec 32 := Scalar.muli v490 c1_i32_415
  let v492 : BitVec 32 := Scalar.addi c0_i32_416 v491
  v492.toNat
def k0_dev16 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_459 : BitVec 32 := 1#32
  let v528 : BitVec 32 := Scalar.xori v2 c1_i32_459
  let c1_i32_467 : BitVec 32 := 1#32
  let v529 : BitVec 32 := Scalar.muli v528 c1_i32_467
  let v530 : BitVec 32 := Scalar.addi c0_i32_468 v529
  v530.toNat
def k0_dev17 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_511 : BitVec 32 := 2#32
  let v566 : BitVec 32 := Scalar.xori v2 c2_i32_511
  let c1_i32_519 : BitVec 32 := 1#32
  let v567 : BitVec 32 := Scalar.muli v566 c1_i32_519
  let v568 : BitVec 32 := Scalar.addi c0_i32_520 v567
  v568.toNat
def k0_dev18 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_563 : BitVec 32 := 4#32
  let v604 : BitVec 32 := Scalar.xori v2 c4_i32_563
  let c1_i32_571 : BitVec 32 := 1#32
  let v605 : BitVec 32 := Scalar.muli v604 c1_i32_571
  let v606 : BitVec 32 := Scalar.addi c0_i32_572 v605
  v606.toNat
def k0_dev19 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_615 : BitVec 32 := 8#32
  let v642 : BitVec 32 := Scalar.xori v2 c8_i32_615
  let c1_i32_623 : BitVec 32 := 1#32
  let v643 : BitVec 32 := Scalar.muli v642 c1_i32_623
  let v644 : BitVec 32 := Scalar.addi c0_i32_624 v643
  v644.toNat
def k0_dev20 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_667 : BitVec 32 := 1#32
  let v680 : BitVec 32 := Scalar.xori v2 c1_i32_667
  let c1_i32_675 : BitVec 32 := 1#32
  let v681 : BitVec 32 := Scalar.muli v680 c1_i32_675
  let v682 : BitVec 32 := Scalar.addi c0_i32_676 v681
  v682.toNat
def k0_dev21 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_719 : BitVec 32 := 4#32
  let v718 : BitVec 32 := Scalar.xori v2 c4_i32_719
  let c1_i32_727 : BitVec 32 := 1#32
  let v719 : BitVec 32 := Scalar.muli v718 c1_i32_727
  let v720 : BitVec 32 := Scalar.addi c0_i32_728 v719
  v720.toNat
def k0_dev22 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_771 : BitVec 32 := 8#32
  let v756 : BitVec 32 := Scalar.xori v2 c8_i32_771
  let c1_i32_779 : BitVec 32 := 1#32
  let v757 : BitVec 32 := Scalar.muli v756 c1_i32_779
  let v758 : BitVec 32 := Scalar.addi c0_i32_780 v757
  v758.toNat
def k0_dev23 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_823 : BitVec 32 := 1#32
  let v794 : BitVec 32 := Scalar.xori v2 c1_i32_823
  let c1_i32_831 : BitVec 32 := 1#32
  let v795 : BitVec 32 := Scalar.muli v794 c1_i32_831
  let v796 : BitVec 32 := Scalar.addi c0_i32_832 v795
  v796.toNat
def k0_dev24 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_875 : BitVec 32 := 2#32
  let v832 : BitVec 32 := Scalar.xori v2 c2_i32_875
  let c1_i32_883 : BitVec 32 := 1#32
  let v833 : BitVec 32 := Scalar.muli v832 c1_i32_883
  let v834 : BitVec 32 := Scalar.addi c0_i32_884 v833
  v834.toNat
def k0_dev25 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_927 : BitVec 32 := 4#32
  let v870 : BitVec 32 := Scalar.xori v2 c4_i32_927
  let c1_i32_935 : BitVec 32 := 1#32
  let v871 : BitVec 32 := Scalar.muli v870 c1_i32_935
  let v872 : BitVec 32 := Scalar.addi c0_i32_936 v871
  v872.toNat
def k0_dev26 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_979 : BitVec 32 := 8#32
  let v908 : BitVec 32 := Scalar.xori v2 c8_i32_979
  let c1_i32_987 : BitVec 32 := 1#32
  let v909 : BitVec 32 := Scalar.muli v908 c1_i32_987
  let v910 : BitVec 32 := Scalar.addi c0_i32_988 v909
  v910.toNat
def k0_dev27 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1031 : BitVec 32 := 1#32
  let v946 : BitVec 32 := Scalar.xori v2 c1_i32_1031
  let c1_i32_1039 : BitVec 32 := 1#32
  let v947 : BitVec 32 := Scalar.muli v946 c1_i32_1039
  let v948 : BitVec 32 := Scalar.addi c0_i32_1040 v947
  v948.toNat
def k0_dev28 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1083 : BitVec 32 := 2#32
  let v984 : BitVec 32 := Scalar.xori v2 c2_i32_1083
  let c1_i32_1091 : BitVec 32 := 1#32
  let v985 : BitVec 32 := Scalar.muli v984 c1_i32_1091
  let v986 : BitVec 32 := Scalar.addi c0_i32_1092 v985
  v986.toNat
def k0_dev29 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1135 : BitVec 32 := 8#32
  let v1022 : BitVec 32 := Scalar.xori v2 c8_i32_1135
  let c1_i32_1143 : BitVec 32 := 1#32
  let v1023 : BitVec 32 := Scalar.muli v1022 c1_i32_1143
  let v1024 : BitVec 32 := Scalar.addi c0_i32_1144 v1023
  v1024.toNat
def k0_dev30 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1187 : BitVec 32 := 1#32
  let v1060 : BitVec 32 := Scalar.xori v2 c1_i32_1187
  let c1_i32_1195 : BitVec 32 := 1#32
  let v1061 : BitVec 32 := Scalar.muli v1060 c1_i32_1195
  let v1062 : BitVec 32 := Scalar.addi c0_i32_1196 v1061
  v1062.toNat
def k0_dev31 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1239 : BitVec 32 := 2#32
  let v1098 : BitVec 32 := Scalar.xori v2 c2_i32_1239
  let c1_i32_1247 : BitVec 32 := 1#32
  let v1099 : BitVec 32 := Scalar.muli v1098 c1_i32_1247
  let v1100 : BitVec 32 := Scalar.addi c0_i32_1248 v1099
  v1100.toNat
def k0_dev32 (d0 : Dev nD) : Nat :=
  let c0_i32_1300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1291 : BitVec 32 := 4#32
  let v1136 : BitVec 32 := Scalar.xori v2 c4_i32_1291
  let c1_i32_1299 : BitVec 32 := 1#32
  let v1137 : BitVec 32 := Scalar.muli v1136 c1_i32_1299
  let v1138 : BitVec 32 := Scalar.addi c0_i32_1300 v1137
  v1138.toNat
def k0_dev33 (d0 : Dev nD) : Nat :=
  let c0_i32_1352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1343 : BitVec 32 := 8#32
  let v1174 : BitVec 32 := Scalar.xori v2 c8_i32_1343
  let c1_i32_1351 : BitVec 32 := 1#32
  let v1175 : BitVec 32 := Scalar.muli v1174 c1_i32_1351
  let v1176 : BitVec 32 := Scalar.addi c0_i32_1352 v1175
  v1176.toNat
def k0_dev34 (d0 : Dev nD) : Nat :=
  let c0_i32_1404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1395 : BitVec 32 := 1#32
  let v1212 : BitVec 32 := Scalar.xori v2 c1_i32_1395
  let c1_i32_1403 : BitVec 32 := 1#32
  let v1213 : BitVec 32 := Scalar.muli v1212 c1_i32_1403
  let v1214 : BitVec 32 := Scalar.addi c0_i32_1404 v1213
  v1214.toNat
def k0_dev35 (d0 : Dev nD) : Nat :=
  let c0_i32_1456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1447 : BitVec 32 := 2#32
  let v1250 : BitVec 32 := Scalar.xori v2 c2_i32_1447
  let c1_i32_1455 : BitVec 32 := 1#32
  let v1251 : BitVec 32 := Scalar.muli v1250 c1_i32_1455
  let v1252 : BitVec 32 := Scalar.addi c0_i32_1456 v1251
  v1252.toNat
def k0_dev36 (d0 : Dev nD) : Nat :=
  let c0_i32_1508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1499 : BitVec 32 := 4#32
  let v1288 : BitVec 32 := Scalar.xori v2 c4_i32_1499
  let c1_i32_1507 : BitVec 32 := 1#32
  let v1289 : BitVec 32 := Scalar.muli v1288 c1_i32_1507
  let v1290 : BitVec 32 := Scalar.addi c0_i32_1508 v1289
  v1290.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S1x256x1024 : Shape := ⟨3, ![1, 256, 1024]⟩
abbrev S1024x1024 : Shape := ⟨2, ![1024, 1024]⟩
abbrev S1x65536x2x128 : Shape := ⟨4, ![1, 65536, 2, 128]⟩
abbrev S1x256x8x128 : Shape := ⟨4, ![1, 256, 8, 128]⟩
abbrev S1x65536x2x4x128 : Shape := ⟨5, ![1, 65536, 2, 4, 128]⟩
abbrev S1x65536x8x128 : Shape := ⟨4, ![1, 65536, 8, 128]⟩
abbrev S1x8x256x65536 : Shape := ⟨4, ![1, 8, 256, 65536]⟩
abbrev S_ : Shape := ⟨0, ![]⟩
abbrev S1x8x256 : Shape := ⟨3, ![1, 8, 256]⟩
abbrev S1x8x256x1 : Shape := ⟨4, ![1, 8, 256, 1]⟩
abbrev S1x8x128x256 : Shape := ⟨4, ![1, 8, 128, 256]⟩
abbrev S1x256x8x1 : Shape := ⟨4, ![1, 256, 8, 1]⟩

abbrev nBuf : Space → Nat
  | .hbm => 36
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x65536x2x128, .bf16⟩
  | .hbm, ⟨3, _⟩ => ⟨S1x65536x2x128, .bf16⟩
  | .hbm, ⟨4, _⟩ => ⟨S1024x1024, .bf16⟩
  | .hbm, ⟨5, _⟩ => ⟨S1x256x1024, .f32⟩
  | .hbm, ⟨6, _⟩ => ⟨S1x256x1024, .bf16⟩
  | .hbm, ⟨7, _⟩ => ⟨S1x256x8x128, .bf16⟩
  | .hbm, ⟨8, _⟩ => ⟨S1x65536x2x4x128, .bf16⟩
  | .hbm, ⟨9, _⟩ => ⟨S1x65536x8x128, .bf16⟩
  | .hbm, ⟨10, _⟩ => ⟨S1x65536x2x4x128, .bf16⟩
  | .hbm, ⟨11, _⟩ => ⟨S1x65536x8x128, .bf16⟩
  | .hbm, ⟨12, _⟩ => ⟨S1x8x256x65536, .f32⟩
  | .hbm, ⟨13, _⟩ => ⟨S1x8x256x65536, .bf16⟩
  | .hbm, ⟨14, _⟩ => ⟨S1x8x256x65536, .f32⟩
  | .hbm, ⟨15, _⟩ => ⟨S_, .f32⟩
  | .hbm, ⟨16, _⟩ => ⟨S_, .f32⟩
  | .hbm, ⟨17, _⟩ => ⟨S1x8x256x65536, .f32⟩
  | .hbm, ⟨18, _⟩ => ⟨S1x8x256x65536, .f32⟩
  | .hbm, ⟨19, _⟩ => ⟨S_, .f32⟩
  | .hbm, ⟨20, _⟩ => ⟨S1x8x256, .f32⟩
  | .hbm, ⟨21, _⟩ => ⟨S1x8x256x1, .f32⟩
  | .hbm, ⟨22, _⟩ => ⟨S1x8x256x65536, .f32⟩
  | .hbm, ⟨23, _⟩ => ⟨S1x8x256x65536, .f32⟩
  | .hbm, ⟨24, _⟩ => ⟨S1x8x256x65536, .f32⟩
  | .hbm, ⟨25, _⟩ => ⟨S_, .f32⟩
  | .hbm, ⟨26, _⟩ => ⟨S1x8x256, .f32⟩
  | .hbm, ⟨27, _⟩ => ⟨S1x8x256x1, .f32⟩
  | .hbm, ⟨28, _⟩ => ⟨S1x8x128x256, .f32⟩
  | .hbm, ⟨29, _⟩ => ⟨S1x256x8x128, .f32⟩
  | .hbm, ⟨30, _⟩ => ⟨S1x256x8x1, .f32⟩
  | .hbm, ⟨31, _⟩ => ⟨S1x256x8x128, .f32⟩
  | .hbm, ⟨32, _⟩ => ⟨S1x256x8x128, .f32⟩
  | .hbm, ⟨33, _⟩ => ⟨S1x256x1024, .f32⟩
  | .hbm, ⟨34, _⟩ => ⟨S1024x1024, .f32⟩
  | .hbm, ⟨35, _⟩ => ⟨S1x256x1024, .f32⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Kernel.BodyEq.lean ====
/- The printed kernel body is the body by flow and stage. -/
module

public import proofs.«01_k».proof.Proof.Kernel.Program

@[expose] public section

noncomputable section

namespace Cert.Kernel.Flow

open Idealize.ShloMosaic Idealize.ShloMosaic.TcCoe Idealize.SL.Sem Cert.Kernel Cert.Kernel.Gen

variable {F : FTy → Type} [FloatOps F]

set_option maxRecDepth 200000 in
set_option maxHeartbeats 0 in
/-- The printed body is that. -/
theorem body_eq : bodyAt0 (F := F) t0_0 = body := rfl

end Cert.Kernel.Flow

end
-- ==== Proof.KernelIdeal.Program.lean ====
/- The kernel body written by flow and stage.

   The printed body spells out every one of its eight flows (a head each) and four exchange stages. Here the
   same operations are given once, as functions of the flow `h` and the stage `s`, and the printed body is
   shown to be their sequence. Everything later speaks of this form. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Flow

open Idealize.ShloMosaic Idealize.ShloMosaic.TcCoe Idealize.SL.Sem Cert.KernelIdeal Cert.KernelIdeal.Gen

variable {F : FTy → Type} [FloatOps F] [Named F]

/-- A program of the TensorCore. -/
abbrev TProg (F : FTy → Type) (α : Type) := Prog (TpuEff nD τ sig (Elt F) Λ₀ .tc) α

/-! ## The buffers -/

abbrev xM : Memref sig .tc .vmem S256x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev kM : Memref sig .tc .vmem S4096x256 .bf16 := Memref.whole cc0_stg3_0
abbrev vM : Memref sig .tc .vmem S4096x256 .bf16 := Memref.whole cc0_stg4_0
abbrev outM : Memref sig .tc .vmem S256x1024 .f32 := Memref.whole cc0_stg5_0
/-- The running partial sums, one slice for each flow. -/
abbrev accM : Memref sig .tc .vmem S8x258x128 .f32 := Memref.whole cc0_scratch0
/-- What is sent, one slice for each flow. -/
abbrev sndM : Memref sig .tc .vmem S8x258x128 .bf16 := Memref.whole cc0_scratch1
/-- What lands, one slot for each flow and stage. -/
abbrev rcvM : Memref sig .tc .vmem S8x4x258x128 .bf16 := Memref.whole cc0_scratch2

/-! ## The rectangles of a flow -/

theorem inb_flow : ∀ h : Fin 8, ∀ a, (![h.val, 0, 0] : Fin 3 → Nat) a + S1x258x128.size a ≤ S8x258x128.size a := by decide
theorem inb_top : ∀ h : Fin 8, ∀ a, (![h.val, 0, 0] : Fin 3 → Nat) a + S1x256x128.size a ≤ S8x258x128.size a := by decide
theorem inb_low : ∀ h : Fin 8, ∀ a, (![h.val, 256, 0] : Fin 3 → Nat) a + S1x2x128.size a ≤ S8x258x128.size a := by decide
theorem inb_slot : ∀ (h : Fin 8) (s : Fin 4), ∀ a,
    (![h.val, s.val, 0, 0] : Fin 4 → Nat) a + S1x1x258x128.size a ≤ S8x4x258x128.size a := by decide
theorem inb_cell : ∀ (h : Fin 8) (s : Fin 4), ∀ a, (![h.val, s.val] : Fin 2 → Nat) a + S1x1.size a ≤ S8x4.size a := by decide
theorem inb_wo : ∀ h : Fin 8, ∀ a, (![128 * h.val, 0] : Fin 2 → Nat) a + S128x1024.size a ≤ S1024x1024.size a := by decide
theorem inb_kv : ∀ g : Fin 2, ∀ a, (![0, 128 * g.val] : Fin 2 → Nat) a + S4096x128.size a ≤ S4096x256.size a := by decide
theorem slices_q : ∀ h : Fin 8, S256x1024.Slices ![0, 128 * h.val] S256x128 := by decide

/-- A flow's slice of the partial sums or of what is sent. -/
abbrev flowR (h : Fin 8) : Rect S8x258x128 := Rect.unit (s := S8x258x128) ![h.val, 0, 0] S1x258x128.size (inb_flow h)
/-- Its first 256 rows. -/
abbrev topR (h : Fin 8) : Rect S8x258x128 := Rect.unit (s := S8x258x128) ![h.val, 0, 0] S1x256x128.size (inb_top h)
/-- Its last two rows. -/
abbrev lowR (h : Fin 8) : Rect S8x258x128 := Rect.unit (s := S8x258x128) ![h.val, 256, 0] S1x2x128.size (inb_low h)
/-- The landing slot of a flow and a stage. -/
abbrev slotR (h : Fin 8) (s : Fin 4) : Rect S8x4x258x128 :=
  Rect.unit (s := S8x4x258x128) ![h.val, s.val, 0, 0] S1x1x258x128.size (inb_slot h s)
/-- The rows of `Wo` that meet head `h`. -/
abbrev woR (h : Fin 8) : Rect S1024x1024 := Rect.unit (s := S1024x1024) ![128 * h.val, 0] S128x1024.size (inb_wo h)
/-- The columns of the keys or the values of group `g`. -/
abbrev kvR (g : Fin 2) : Rect S4096x256 := Rect.unit (s := S4096x256) ![0, 128 * g.val] S4096x128.size (inb_kv g)

theorem packed_flow : ∀ h : Fin 8, (flowR h).PackedRows (EltTy.packing .bf16) := by decide +kernel
theorem packed_top : ∀ h : Fin 8, (topR h).PackedRows (EltTy.packing .bf16) := by decide +kernel
theorem packed_low : ∀ h : Fin 8, (lowR h).PackedRows (EltTy.packing .bf16) := by decide +kernel
theorem words_flow : ∀ h : Fin 8, (flowR h).WholeWords (EltTy.packing .bf16) := by decide +kernel
theorem words_slot : ∀ (h : Fin 8) (s : Fin 4), (slotR h s).WholeWords (EltTy.packing .bf16) := by decide +kernel

/-- What flow `h` sends, as a matrix. -/
abbrev sndV (h : Fin 8) : Memref sig .tc .vmem S258x128 .bf16 :=
  (sndM.slice (flowR h) (fun _ => rfl)).squeeze S258x128 squeezes_S1x258x128_S258x128
/-- The landing slot of flow `h` at stage `s`, as a matrix. -/
abbrev rcvV (h : Fin 8) (s : Fin 4) : Memref sig .tc .vmem S258x128 .bf16 :=
  (rcvM.slice (slotR h s) (fun _ => rfl)).squeeze S258x128 squeezes_S1x1x258x128_S258x128

/-- The semaphore that a copy credits where it is sent. -/
abbrev sndS (h : Fin 8) (s : Fin 4) : DmaSem sig :=
  ((cc0_scratch3.slice (Rect.unit (s := S8x4) ![h.val, s.val] S1x1.size (inb_cell h s))).squeeze S_ squeezes_S1x1_S_).sem
/-- The semaphore that a copy credits where it lands. -/
abbrev rcvS (h : Fin 8) (s : Fin 4) : DmaSem sig :=
  ((cc0_scratch4.slice (Rect.unit (s := S8x4) ![h.val, s.val] S1x1.size (inb_cell h s))).squeeze S_ squeezes_S1x1_S_).sem
/-- The barrier semaphore. -/
abbrev barS : Sem sig := (SemArray.scalar (sig.barrier 0 rfl) : Sems sig S_).sem

/-! ## The devices named -/

/-- The device that the copy of flow `h` at stage `s` goes to, as the kernel computes it. -/
def dstOf (c : Dev nD) (s : Fin 4) (h : Fin 8) : Dev nD :=
  (![![⟨k0_dev5 c, k0_dev5_lt c⟩, ⟨k0_dev6 c, k0_dev6_lt c⟩, ⟨k0_dev7 c, k0_dev7_lt c⟩, ⟨k0_dev8 c, k0_dev8_lt c⟩,
      ⟨k0_dev9 c, k0_dev9_lt c⟩, ⟨k0_dev10 c, k0_dev10_lt c⟩, ⟨k0_dev11 c, k0_dev11_lt c⟩, ⟨k0_dev12 c, k0_dev12_lt c⟩],
     ![⟨k0_dev13 c, k0_dev13_lt c⟩, ⟨k0_dev14 c, k0_dev14_lt c⟩, ⟨k0_dev15 c, k0_dev15_lt c⟩, ⟨k0_dev16 c, k0_dev16_lt c⟩,
      ⟨k0_dev17 c, k0_dev17_lt c⟩, ⟨k0_dev18 c, k0_dev18_lt c⟩, ⟨k0_dev19 c, k0_dev19_lt c⟩, ⟨k0_dev20 c, k0_dev20_lt c⟩],
     ![⟨k0_dev21 c, k0_dev21_lt c⟩, ⟨k0_dev22 c, k0_dev22_lt c⟩, ⟨k0_dev23 c, k0_dev23_lt c⟩, ⟨k0_dev24 c, k0_dev24_lt c⟩,
      ⟨k0_dev25 c, k0_dev25_lt c⟩, ⟨k0_dev26 c, k0_dev26_lt c⟩, ⟨k0_dev27 c, k0_dev27_lt c⟩, ⟨k0_dev28 c, k0_dev28_lt c⟩],
     ![⟨k0_dev29 c, k0_dev29_lt c⟩, ⟨k0_dev30 c, k0_dev30_lt c⟩, ⟨k0_dev31 c, k0_dev31_lt c⟩, ⟨k0_dev32 c, k0_dev32_lt c⟩,
      ⟨k0_dev33 c, k0_dev33_lt c⟩, ⟨k0_dev34 c, k0_dev34_lt c⟩, ⟨k0_dev35 c, k0_dev35_lt c⟩, ⟨k0_dev36 c, k0_dev36_lt c⟩]] :
    Fin 4 → Fin 8 → Dev nD) s h

/-- The device that the barrier signal number `b` goes to, as the kernel computes it. -/
def sigOf (c : Dev nD) (b : Fin 4) : Dev nD :=
  (![⟨k0_dev1 c, k0_dev1_lt c⟩, ⟨k0_dev2 c, k0_dev2_lt c⟩, ⟨k0_dev3 c, k0_dev3_lt c⟩, ⟨k0_dev4 c, k0_dev4_lt c⟩] :
    Fin 4 → Dev nD) b

/-! ## The values stored -/

/-- The queries, scaled. -/
abbrev qVal (x : Vec F S256x1024 .bf16) (wq : Vec F S1024x1024 .bf16) : FVec F S256x1024 .bf16 := k0_pay2 x wq
/-- One where a row's number modulo 128 is the column's. -/
abbrev diagVal : FVec F S256x128 .f32 :=
  k0_pay3 (iota .tc S256x128 32 [0] iota_S256x128_d0_w32) (iota .tc S256x128 32 [1] iota_S256x128_d1_w32)
    (Scalar.select (Scalar.cmpi .eq 128#32 0#32) 1#32 128#32)
/-- One where a column's number divided by 128 is the row's. -/
abbrev packVal : FVec F S2x256 .f32 := k0_pay4
/-- One where a row's number divided by 128 is the column's. -/
abbrev unpackVal : FVec F S256x2 .f32 :=
  k0_pay6 (iota .tc S256x2 32 [1] iota_S256x2_d1_w32) (iota .tc S256x2 32 [0] iota_S256x2_d0_w32) 128#32 k0_pay5

/-- The scores of head `h`, exponentiated, times a group's values with its columns of ones. -/
abbrev pvVal (h : Fin 8) (q : FVec F S256x1024 .bf16) (k : FVec F S4096x128 .bf16) (v : FVec F S4096x256 .bf16) :
    FVec F S256x256 .f32 :=
  matmul dot_S256x4096_S4096x256_S256x256_1_0_0_1_n_n none
    (truncf .bf16
      (exp (matmul dot_S256x128_S4096x128_S256x4096_1_1_0_0_n_n none
        (extractStridedSlice S256x128 ![0, 128 * h.val] q (slices_q h)) k
        (constant S256x4096 .f32 0x00000000#32))) bitsLt_bf16_f32)
    v (constant S256x256 .f32 0x00000000#32)

/-- The unnormalised output rows of a flow. -/
abbrev topVal (pv : FVec F S256x256 .f32) : FVec F S256x128 .f32 :=
  extractStridedSlice S256x128 ![0, 0] pv slices_S256x256_o0_0_S256x128
/-- The denominators of a flow, packed in two rows. -/
abbrev lowVal (pv : FVec F S256x256 .f32) : FVec F S2x128 .f32 :=
  matmul dot_S2x256_S256x128_S2x128_1_0_0_1_n_n none (packVal (F := F))
    (mulf (extractStridedSlice S256x128 ![0, 128] pv slices_S256x256_o0_128_S256x128) (diagVal (F := F)))
    (constant S2x128 .f32 0x00000000#32)

/-- The sum of a flow's own partial and the one that landed. -/
abbrev sumVal (a : Vec F S1x258x128 .f32) (r : Vec F S1x1x258x128 .bf16) : FVec F S258x128 .f32 :=
  addf (shapeCast S258x128 a shapeCasts_S1x258x128_S258x128)
    (extf .f32 (shapeCast S258x128 r shapeCasts_S1x1x258x128_S258x128) bitsLt_bf16_f32)

/-- The output so far and one head's share of it. -/
abbrev finVal (o : FVec F S256x1024 .f32) (n : FVec F S258x128 .f32) (w : Vec F S128x1024 .bf16) :
    FVec F S256x1024 .f32 :=
  addf o (matmul dot_S256x128_S128x1024_S256x1024_1_0_0_1_n_n none
    (truncf .bf16
      (divf (extractStridedSlice S256x128 ![0, 0] n slices_S258x128_o0_0_S256x128)
        (broadcastTo S256x128
          (shapeCast S256x1
            (multiReduction .add [1] S256
              (mulf
                (matmul dot_S256x2_S2x128_S256x128_1_0_0_1_n_n none (unpackVal (F := F))
                  (extractStridedSlice S2x128 ![256, 0] n slices_S258x128_o256_0_S2x128)
                  (constant S256x128 .f32 0x00000000#32))
                (diagVal (F := F)))
              0x00000000#32 reduces_S256x128_S256 (.inl rfl) rfl)
            shapeCasts_S256_S256x1)
          broadcasts_S256x1_S256x128)) bitsLt_bf16_f32)
    (shapeCast S128x1024 w shapeCasts_S128x1024_S128x1024)
    (constant S256x1024 .f32 0x00000000#32))

/-! ## The operations -/

/-- Flow `h` stores its partial, exactly and as it will be sent. -/
def compute (h : Fin 8) (pv : FVec F S256x256 .f32) : TProg F PUnit := do
  let _ ← Prog.lift (.load accM (topR h).toLoadRect (View.loadsAt_vmem h_S1x256x128))
  Prog.lift (.store accM (topR h) (shapeCast S1x256x128 (topVal pv) shapeCasts_S256x128_S1x256x128) Finset.univ
    (View.stores_vmem_bits_univ h_S1x256x128 rfl) (.inl rfl))
  let _ ← Prog.lift (.load accM (lowR h).toLoadRect (View.loadsAt_vmem h_S1x2x128))
  Prog.lift (.store accM (lowR h) (shapeCast S1x2x128 (lowVal pv) shapeCasts_S2x128_S1x2x128) Finset.univ
    (View.stores_vmem_bits_univ h_S1x2x128 rfl) (.inl rfl))
  let _ ← Prog.lift (.load sndM (topR h).toLoadRect (View.loadsAt_vmem h_S1x256x128))
  Prog.lift (.store sndM (topR h)
    (shapeCast S1x256x128 (truncf .bf16 (topVal pv) bitsLt_bf16_f32) shapeCasts_S256x128_S1x256x128) Finset.univ
    (View.stores_vmem h_S1x256x128 ((Memref.isWhole_whole _).storeExact_slice rfl _ (packed_top h)) (fun _ => rfl)) (.inl rfl))
  let _ ← Prog.lift (.load sndM (lowR h).toLoadRect (View.loadsAt_vmem h_S1x2x128))
  Prog.lift (.store sndM (lowR h)
    (shapeCast S1x2x128 (truncf .bf16 (lowVal pv) bitsLt_bf16_f32) shapeCasts_S2x128_S1x2x128) Finset.univ
    (View.stores_vmem h_S1x2x128 ((Memref.isWhole_whole _).storeExact_slice rfl _ (packed_low h)) (fun _ => rfl)) (.inl rfl))

/-- Flow `h` starts its copy of stage `s` to device `n`. -/
def start (h : Fin 8) (s : Fin 4) (n : Dev nD) : TProg F PUnit :=
  Prog.lift (.enqueueDma (sndV h) (.remote (Dev.tc n) (rcvV h s) (.dma (sndS h s))) (.dma (rcvS h s))
    (((Memref.isWhole_whole _).wordExact_slice rfl _ (words_flow h)).reshape _ _)
    (((Memref.isWhole_whole _).wordExact_slice rfl _ (words_slot h s)).reshape _ _) ⟨⟨rfl, Or.inl rfl⟩, trivial⟩)

/-- Flow `h` waits until what it sent at stage `s` has left. -/
def waitSent (h : Fin 8) (s : Fin 4) : TProg F PUnit :=
  Prog.lift (.waitDma2 (sndS h s) (rcvV h s) (sndV h)
    (((Memref.isWhole_whole _).wordExact_slice rfl _ (words_slot h s)).reshape _ _)
    (((Memref.isWhole_whole _).wordExact_slice rfl _ (words_flow h)).reshape _ _))

/-- Flow `h` waits until what it receives at stage `s` has landed. -/
def waitLanded (h : Fin 8) (s : Fin 4) : TProg F PUnit :=
  Prog.lift (.waitDma2 (rcvS h s) (sndV h) (rcvV h s)
    (((Memref.isWhole_whole _).wordExact_slice rfl _ (words_flow h)).reshape _ _)
    (((Memref.isWhole_whole _).wordExact_slice rfl _ (words_slot h s)).reshape _ _))

/-- Flow `h` adds what landed at stage `s` to its partial, exactly and as it will be sent. -/
def accumulate (h : Fin 8) (s : Fin 4) : TProg F PUnit := do
  let a ← Prog.lift (.load accM (flowR h).toLoadRect (View.loadsAt_vmem h_S1x258x128))
  let r ← Prog.lift (.load rcvM (slotR h s).toLoadRect (View.loadsAt_vmem h_S1x1x258x128))
  let _ ← Prog.lift (.load accM (flowR h).toLoadRect (View.loadsAt_vmem h_S1x258x128))
  Prog.lift (.store accM (flowR h) (shapeCast S1x258x128 (sumVal a r) shapeCasts_S258x128_S1x258x128) Finset.univ
    (View.stores_vmem_bits_univ h_S1x258x128 rfl) (.inl rfl))
  let _ ← Prog.lift (.load sndM (flowR h).toLoadRect (View.loadsAt_vmem h_S1x258x128))
  Prog.lift (.store sndM (flowR h)
    (shapeCast S1x258x128 (truncf .bf16 (sumVal a r) bitsLt_bf16_f32) shapeCasts_S258x128_S1x258x128) Finset.univ
    (View.stores_vmem h_S1x258x128 ((Memref.isWhole_whole _).storeExact_slice rfl _ (packed_flow h)) (fun _ => rfl)) (.inl rfl))

/-- One exchange of a stage before the last: wait, add, and start the next stage's copy to `n`. -/
def exchange (c : Dev nD) (h : Fin 8) (s : Fin 3) : TProg F PUnit := do
  waitSent h s.castSucc
  waitLanded h s.castSucc
  accumulate h s.castSucc
  start h s.succ (dstOf c s.succ h)

/-- The last stage of flow `h`: wait, add, and take the head's share into the output. -/
def finish (h : Fin 8) (o : FVec F S256x1024 .f32) : TProg F (FVec F S256x1024 .f32) := do
  waitSent h 3
  waitLanded h 3
  let a ← Prog.lift (.load accM (flowR h).toLoadRect (View.loadsAt_vmem h_S1x258x128))
  let r ← Prog.lift (.load rcvM (slotR h 3).toLoadRect (View.loadsAt_vmem h_S1x1x258x128))
  let w ← Prog.lift (.load woM (woR h).toLoadRect (View.loadsAt_vmem h_S128x1024))
  pure (finVal o (sumVal a r) w)

/-- A list of operations, in order. -/
def runAll {ι : Type} (f : ι → TProg F PUnit) : List ι → TProg F PUnit
  | [] => pure ⟨⟩
  | i :: l => do f i; runAll f l

/-- A list of operations on a running value, in order. -/
def runFold {ι α : Type} (f : ι → α → TProg F α) : List ι → α → TProg F α
  | [], a => pure a
  | i :: l, a => do let b ← f i a; runFold f l b

/-- The exchanges before the last stage, in the kernel's order. -/
def exchanges : List (Fin 8 × Fin 3) :=
  [(0, 0), (1, 0), (2, 0), (3, 0), (4, 0), (5, 0), (6, 0), (7, 0),
   (0, 1), (1, 1), (2, 1), (3, 1), (4, 1), (5, 1), (6, 1), (7, 1),
   (0, 2), (1, 2), (2, 2), (3, 2), (4, 2), (5, 2), (6, 2), (7, 2)]

/-- The flows, in order. -/
def flows : List (Fin 8) := [0, 1, 2, 3, 4, 5, 6, 7]

/-- A group's keys as loaded, and its values with columns of ones. -/
abbrev keyVal (k : Vec F S4096x128 .bf16) : FVec F S4096x128 .bf16 := k0_pay8 k
abbrev valVal (v : Vec F S4096x128 .bf16) : FVec F S4096x256 .bf16 := k0_pay9 v

/-- The group of a head. -/
def grp (h : Fin 8) : Fin 2 := (![0, 0, 0, 0, 1, 1, 1, 1] : Fin 8 → Fin 2) h

/-- What follows the loads: the flows' partials, the barrier, the exchanges, and the output. -/
def afterLoads (c : Dev nD) (q : FVec F S256x1024 .bf16) (k : Fin 2 → FVec F S4096x128 .bf16)
    (v : Fin 2 → FVec F S4096x256 .bf16) : TProg F PUnit := do
  compute 0 (pvVal 0 q (k 0) (v 0))
  semWaitWord barS 4#32
  start 0 0 (dstOf c 0 0)
  runAll (fun h => do compute h (pvVal h q (k (grp h)) (v (grp h))); start h 0 (dstOf c 0 h)) [1, 2, 3, 4, 5, 6, 7]
  runAll (fun p => exchange c p.1 p.2) exchanges
  let o ← runFold finish flows (broadcast S256x1024 (Scalar.ofBits .f32 0x00000000#32))
  let _ ← Prog.lift (.load outM (Rect.unit (s := S256x1024) ![0, 0] S256x1024.size inb_S256x1024_S256x1024_0_0).toLoadRect (View.loadsAt_vmem h_S256x1024))
  Prog.lift (.store outM (Rect.unit (s := S256x1024) ![0, 0] S256x1024.size inb_S256x1024_S256x1024_0_0) o Finset.univ (View.stores_vmem_bits_univ h_S256x1024 rfl) (.inl rfl))
  pure ⟨⟩

/-- The body by flow and stage. -/
def body : TProg F PUnit := do
  let c ← Prog.lift .deviceId
  runAll (fun b => semSignalWord (sigOf c b) barS 1#32) [0, 1, 2, 3]
  let x ← Prog.lift (.load xM (Rect.unit (s := S256x1024) ![0, 0] S256x1024.size inb_S256x1024_S256x1024_0_0).toLoadRect (View.loadsAt_vmem h_S256x1024))
  let wq ← Prog.lift (.load wqM (Rect.unit (s := S1024x1024) ![0, 0] S1024x1024.size inb_S1024x1024_S1024x1024_0_0).toLoadRect (View.loadsAt_vmem h_S1024x1024))
  let k0 ← Prog.lift (.load kM (kvR 0).toLoadRect (View.loadsAt_vmem h_S4096x128))
  let v0 ← Prog.lift (.load vM (kvR 0).toLoadRect (View.loadsAt_vmem h_S4096x128))
  let k1 ← Prog.lift (.load kM (kvR 1).toLoadRect (View.loadsAt_vmem h_S4096x128))
  let v1 ← Prog.lift (.load vM (kvR 1).toLoadRect (View.loadsAt_vmem h_S4096x128))
  afterLoads c (qVal x wq) ![keyVal k0, keyVal k1] ![valVal v0, valVal v1]

end Cert.KernelIdeal.Flow

end
-- ==== Proof.KernelIdeal.Protocol.lean ====
/- The exchange's protocol.

   Sixteen devices exchange partial sums with the devices whose number differs from theirs in one bit: flow `h`
   at stage `s` uses bit `(s + h) mod 4`. On every device:

   * the barrier semaphore is raised by one by each of the four devices that differ in one bit, and waited for
     once, by four. The device that differs in bit `b` hands over its own landing slots that this device will
     write: those of the flows and stages that use bit `b`;
   * the semaphore that counts what flow `h` sent at stage `s` is credited once, by that copy leaving, and waited
     for once; it hands back the slice that was sent;
   * the semaphore that counts what landed of flow `h` at stage `s` is credited once, by the partner's copy, and
     waited for once; it hands over the slot, holding the partner's partial at that stage as it was sent.

   A wait is allowed below what the waiter still owes: the barrier is at level 1, a landing of stage `s` at
   level `2 + s`, and every other semaphore at level 0; at stage `s` a device owes landings of later stages only. -/
module

public import proofs.«01_k».proof.Proof.KernelIdeal.Program
public import Idealize.ShloMosaic.Lib.Pipeline.Regions
public import Idealize.ShloMosaic.Lib.Pipeline.Kit
public import Idealize.ShloMosaic.Lib.Pipeline.BigSepL
public import Idealize.ShloMosaic.Lib.Rounds
public import Idealize.ShloMosaic.Lib.Rounds.Family
public import Idealize.ShloMosaic.Lib.StableHlo
public import Idealize.ShloMosaic.Lib.Tactic
public import Idealize.ShloMosaic.Lib.ValueLayout
public import Idealize.ShloMosaic.Lib.Memref
public import Idealize.ShloMosaic.Lib.Pipeline.RegionTalk
public import Idealize.ShloMosaic.Harness.Basic

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Partners -/

/-- The device that differs from `c` in bit `b`. -/
def partner (b : Fin 4) (c : Dev nD) : Dev nD := ⟨c.val ^^^ (2 ^ b.val), by revert b c; decide⟩
theorem partner_partner (b : Fin 4) (c : Dev nD) : partner b (partner b c) = c := by revert b c; decide
/-- Changing one bit is its own inverse. -/
def flip (b : Fin 4) : Dev nD ≃ Dev nD := ⟨partner b, partner b, partner_partner b, partner_partner b⟩

/-- The bit that flow `h` uses at stage `s`. -/
def bit (h : Fin 8) (s : Fin 4) : Fin 4 := ⟨(s.val + h.val) % 4, Nat.mod_lt _ (by decide)⟩
/-- The stage at which flow `h` uses bit `b`. -/
def stageOf (h : Fin 8) (b : Fin 4) : Fin 4 := ⟨(b.val + 8 - h.val) % 4, Nat.mod_lt _ (by decide)⟩
theorem bit_stageOf : ∀ (h : Fin 8) (b : Fin 4), bit h (stageOf h b) = b := by decide
theorem stageOf_bit : ∀ (h : Fin 8) (s : Fin 4), stageOf h (bit h s) = s := by decide

/-- The partner of flow `h` at stage `s`. -/
abbrev peer (h : Fin 8) (s : Fin 4) (c : Dev nD) : Dev nD := partner (bit h s) c

/-- A copy goes to the partner. -/
theorem dstOf_eq : ∀ (c : Dev nD) (s : Fin 4) (h : Fin 8), dstOf c s h = peer h s c := by decide +kernel
/-- A signal goes to the device that differs in its bit. -/
theorem sigOf_eq : ∀ (c : Dev nD) (b : Fin 4), sigOf c b = partner b c := by decide +kernel

/-! ## The resource algebra -/

/-- The exchange's own rounds: a duty of a barrier cell for each bit; the other cells use the first. -/
abbrev UB : Type := URounds (GSem nD τ sig) (Fin 4)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev sndCell (c : Dev nD) (h : Fin 8) (s : Fin 4) : GSem nD τ sig := ((c : Thread nD τ), .dma (sndS h s))
abbrev rcvCell (c : Dev nD) (h : Fin 8) (s : Fin 4) : GSem nD τ sig := ((c : Thread nD τ), .dma (rcvS h s))

theorem sndS_val : ∀ (h : Fin 8) (s : Fin 4), (sndS h s).val = 6 + (4 * h.val + s.val) := by decide +kernel
theorem rcvS_val : ∀ (h : Fin 8) (s : Fin 4), (rcvS h s).val = 38 + (4 * h.val + s.val) := by decide +kernel

/-- The flow and stage of the semaphore at place `i` of its array. -/
def place (i : ℕ) : Fin 8 × Fin 4 := (⟨i / 4 % 8, Nat.mod_lt _ (by decide)⟩, ⟨i % 4, Nat.mod_lt _ (by decide)⟩)
theorem place_eq : ∀ (h : Fin 8) (s : Fin 4), place (4 * h.val + s.val) = (h, s) := by decide

/-- What one copy credits. -/
abbrev N : ℕ := (rcvV 0 0).view.dmaCredit
theorem N_pos : 0 < N := View.dmaCredit_pos _ (by decide)

/-! ## What the flows hold -/

/-- Device `c`'s partial of flow `h`, read as `X`. -/
abbrev accO (c : Dev nD) (h : Fin 8) (X : FVec F S258x128 .f32) : sProp 𝕄 :=
  owns (c : Thread nD τ) (accM.slice (flowR h) (fun _ => rfl)) fullShare
    (shapeCast S1x258x128 X shapeCasts_S258x128_S1x258x128)
/-- What device `c`'s flow `h` sends, read as `X`. -/
abbrev sndO (c : Dev nD) (h : Fin 8) (X : FVec F S258x128 .bf16) : sProp 𝕄 :=
  owns (c : Thread nD τ) (sndV h) fullShare X
/-- Device `c`'s slot of flow `h` and stage `s`, read as `X`. -/
abbrev rcvO (c : Dev nD) (h : Fin 8) (s : Fin 4) (X : FVec F S258x128 .bf16) : sProp 𝕄 :=
  owns (c : Thread nD τ) (rcvV h s) fullShare X

/-- The partial of flow `h` on device `c` once `s` stages are done, from every device's own partials `P`. -/
def part (P : Dev nD → Fin 8 → FVec F S258x128 .f32) (h : Fin 8) : ℕ → Dev nD → FVec F S258x128 .f32
  | 0, c => P c h
  | s + 1, c => addf (part P h s c)
      (extf .f32 (truncf .bf16 (part P h s (peer h ⟨s % 4, Nat.mod_lt _ (by decide)⟩ c)) bitsLt_bf16_f32) bitsLt_bf16_f32)

/-- The same as it is sent. -/
abbrev sent (P : Dev nD → Fin 8 → FVec F S258x128 .f32) (h : Fin 8) (s : ℕ) (c : Dev nD) : FVec F S258x128 .bf16 :=
  truncf .bf16 (part P h s c) bitsLt_bf16_f32

/-! ## The schedule -/

variable (P : Dev nD → Fin 8 → FVec F S258x128 .f32)

/-- Device `c`'s slot at contents not chosen, and that its cell is at its first round. -/
def slotFree (c : Dev nD) (h : Fin 8) (s : Fin 4) : sProp 𝕄 :=
  iprop((∃ X, rcvO c h s X) ∗ reached (ER (F := F)) (rcvCell c h s) 0)
instance slotFree_storable (c : Dev nD) (h : Fin 8) (s : Fin 4) : BI.Storable (upEmb : UEmb _ 𝕄) (slotFree (F := F) c h s) := by
  unfold slotFree; infer_instance

/-- What the device that differs from `c` in bit `b` hands to `c` with its barrier signal. -/
def barPay (c : Dev nD) (b : Fin 4) : sProp 𝕄 :=
  bigSepL flows fun h => slotFree (partner b c) h (stageOf h b)
/-- What the partner's copy hands over. -/
def rcvPay (c : Dev nD) (h : Fin 8) (s : Fin 4) : sProp 𝕄 := rcvO c h s (sent P h s.val (peer h s c))
/-- What a copy hands back where it is sent. -/
def sndPay (c : Dev nD) (h : Fin 8) : sProp 𝕄 := iprop(∃ X, sndO c h X)

instance bigSepL_storable {I : Type} (l : List I) (Φ : I → sProp 𝕄) [hΦ : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance
instance barPay_storable (c : Dev nD) (b : Fin 4) : BI.Storable (upEmb : UEmb _ 𝕄) (barPay (F := F) c b) := by
  unfold barPay; infer_instance
instance rcvPay_storable (c : Dev nD) (h : Fin 8) (s : Fin 4) : BI.Storable (upEmb : UEmb _ 𝕄) (rcvPay P c h s) := by
  unfold rcvPay; infer_instance
instance sndPay_storable (c : Dev nD) (h : Fin 8) : BI.Storable (upEmb : UEmb _ 𝕄) (sndPay (F := F) c h) := by
  unfold sndPay; infer_instance

/-- The duties of a semaphore's only round. -/
def dutiesOf : SemLoc sig → Finset (Fin 4)
  | .reg _ => Finset.univ
  | .dma _ => {0}
/-- What each contributes. -/
def amountOf : SemLoc sig → ℕ
  | .reg _ => 1
  | .dma _ => N
/-- What each hands over. -/
def payOf (c : Dev nD) : SemLoc sig → Fin 4 → sProp 𝕄
  | .reg _, b => barPay c b
  | .dma i, _ => if 38 ≤ i.val then rcvPay P c (place (i.val - 38)).1 (place (i.val - 38)).2 else sndPay c (place (i.val - 6)).1

/-- The exchange's schedule: one round on every cell of a TensorCore. -/
def exch : Rounds.Schedule (GSem nD τ sig) (Fin 4) 𝕄 where
  duties g r := if g.1.2 = .tc ∧ r = 0 then dutiesOf g.2 else ∅
  amount g _ _ := amountOf g.2
  payload g _ d := payOf P g.1.1 g.2 d
  amount_pos g _ _ _ := by
    unfold amountOf
    split
    · exact Nat.one_pos
    · exact N_pos

instance exch_storable (g : GSem nD τ sig) (r : ℕ) (d : Fin 4) :
    BI.Storable (upEmb : UEmb _ 𝕄) ((exch P).payload g r d) := by
  show BI.Storable upEmb (payOf P g.1.1 g.2 d)
  unfold payOf
  (repeat' split) <;> infer_instance

theorem duties_tc (c : Dev nD) (sm : SemLoc sig) : (exch P).duties ((c : Thread nD τ), sm) 0 = dutiesOf sm := by
  show (if ((c : Thread nD τ), sm).1.2 = .tc ∧ (0 : ℕ) = 0 then dutiesOf sm else ∅) = _
  exact if_pos ⟨rfl, rfl⟩
theorem duties_later (g : GSem nD τ sig) : ∀ r, 1 ≤ r → (exch P).duties g r = ∅ :=
  fun r hr => if_neg (fun h => by omega)
theorem expect_bar (c : Dev nD) : (exch P).expect (barCell c) 0 = 4 := by
  unfold Schedule.expect Schedule.amountOf; rw [duties_tc]; rfl
theorem expect_dma (c : Dev nD) (i : DmaSem sig) : (exch P).expect ((c : Thread nD τ), .dma i) 0 = N := by
  unfold Schedule.expect Schedule.amountOf; rw [duties_tc]; exact Finset.sum_singleton _ _
theorem payload_snd (c : Dev nD) (h : Fin 8) (s : Fin 4) (r : ℕ) (d : Fin 4) :
    (exch P).payload (sndCell c h s) r d = sndPay c h := by
  show payOf P c (.dma (sndS h s)) d = _
  have := h.isLt; have := s.isLt
  unfold payOf
  simp only [sndS_val, Nat.add_sub_cancel_left, place_eq]
  rw [if_neg (by omega)]
theorem payload_rcv (c : Dev nD) (h : Fin 8) (s : Fin 4) (r : ℕ) (d : Fin 4) :
    (exch P).payload (rcvCell c h s) r d = rcvPay P c h s := by
  show payOf P c (.dma (rcvS h s)) d = _
  unfold payOf
  simp only [rcvS_val, Nat.add_sub_cancel_left, place_eq]
  rw [if_pos (by omega)]
theorem rest_snd (c : Dev nD) (h : Fin 8) (s : Fin 4) :
    bigSep ((exch P).duties (sndCell c h s) 0 \ ∅) (fun d => (exch P).payload (sndCell c h s) 0 d) = sndPay c h := by
  rw [Finset.sdiff_empty, duties_tc]
  show bigSep {0} _ = _
  rw [bigSep_singleton, payload_snd]
theorem rest_rcv (c : Dev nD) (h : Fin 8) (s : Fin 4) :
    bigSep ((exch P).duties (rcvCell c h s) 0 \ ∅) (fun d => (exch P).payload (rcvCell c h s) 0 d) = rcvPay P c h s := by
  rw [Finset.sdiff_empty, duties_tc]
  show bigSep {0} _ = _
  rw [bigSep_singleton, payload_rcv]
theorem rest_bar (c : Dev nD) :
    bigSep ((exch P).duties (barCell c) 0 \ ∅) (fun d => (exch P).payload (barCell c) 0 d) = bigSep Finset.univ fun b => barPay c b := by
  rw [Finset.sdiff_empty, duties_tc]; rfl

/-! ## What is owed, and the levels -/

/-- The landings that the copies of `l` owe. -/
def owedAt (c : Dev nD) (l : List (Fin 8 × Fin 4)) : CellTallies nD τ sig Unit :=
  (l.map fun p => tallyAt (rcvCell (peer p.1 p.2 c) p.1 p.2) () N).sum
/-- The barrier units that the signals of `l` owe. -/
def owedBar (c : Dev nD) (l : List (Fin 4)) : CellTallies nD τ sig Unit :=
  (l.map fun b => tallyAt (barCell (partner b c)) () 1).sum

/-- The copies of a stage, in order. -/
def stage (s : Fin 4) : List (Fin 8 × Fin 4) := flows.map fun h => (h, s)
/-- All copies, in order. -/
def copies : List (Fin 8 × Fin 4) := stage 0 ++ (stage 1 ++ (stage 2 ++ stage 3))
/-- What a device owes at launch. -/
def O₀ (c : Dev nD) : CellTallies nD τ sig Unit := owedAt c copies + owedBar c [0, 1, 2, 3]

def L (g : GSem nD τ sig) : Finset Unit := if g.1.2 = .tc then {()} else ∅
/-- The level of a semaphore. -/
def level : SemLoc sig → ℕ
  | .reg _ => 1
  | .dma i => if 38 ≤ i.val then 2 + (i.val - 38) % 4 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl
theorem level_rcv (h : Fin 8) (s : Fin 4) : level (.dma (rcvS h s)) = 2 + s.val := by
  have := s.isLt
  unfold level; simp only [rcvS_val, Nat.add_sub_cancel_left]; rw [if_pos (by omega)]; omega
theorem level_snd (h : Fin 8) (s : Fin 4) : level (.dma (sndS h s)) = 0 := by
  have := s.isLt; have := h.isLt
  unfold level; simp only [sndS_val]; rw [if_neg (by omega)]

theorem owedAt_cons (c : Dev nD) (p : Fin 8 × Fin 4) (l : List (Fin 8 × Fin 4)) :
    owedAt c (p :: l) = owedAt c l + tallyAt (rcvCell (peer p.1 p.2 c) p.1 p.2) () N := by
  unfold owedAt; rw [List.map_cons, List.sum_cons, add_comm]
theorem owedAt_nil (c : Dev nD) : owedAt c [] = 0 := rfl
theorem owedBar_cons (c : Dev nD) (b : Fin 4) (l : List (Fin 4)) :
    owedBar c (b :: l) = owedBar c l + tallyAt (barCell (partner b c)) () 1 := by
  unfold owedBar; rw [List.map_cons, List.sum_cons, add_comm]
theorem owedBar_nil (c : Dev nD) : owedBar c [] = 0 := rfl

/-- What the copies of `l` owe is owed to landings of `l`. -/
theorem owedAt_pos (c : Dev nD) : ∀ (l : List (Fin 8 × Fin 4)) (g : GSem nD τ sig) (u : Unit), 0 < owedAt c l g u →
    ∃ p ∈ l, g = rcvCell (peer p.1 p.2 c) p.1 p.2
  | [], g, u, h => absurd h (Nat.lt_irrefl 0)
  | p :: l, g, u, h => by
    rw [owedAt_cons] at h
    by_cases hg : g = rcvCell (peer p.1 p.2 c) p.1 p.2
    · exact ⟨p, List.mem_cons_self, hg⟩
    · have h' : 0 < owedAt c l g u + tallyAt (rcvCell (peer p.1 p.2 c) p.1 p.2) () N g u := h
      rw [tallyAt_apply, if_neg (fun e => hg e.1), Nat.add_zero] at h'
      obtain ⟨p', hp', e⟩ := owedAt_pos c l g u h'
      exact ⟨p', List.mem_cons_of_mem _ hp', e⟩

/-- A wait at level `k` is allowed while only landings of stages above are owed. -/
theorem mayWait (c : Dev nD) (sm : SemLoc sig) (l : List (Fin 8 × Fin 4)) (h : ∀ p ∈ l, level sm < 2 + p.2.val) :
    (levAts L lv : sProp 𝕄) ⊢ MayWait (c : Thread nD τ) sm () (owedAt c l) :=
  MayOwe.of_cut (L := L) (lev := lv) (level sm) (fun p hp => by rw [Finset.mem_singleton.mp hp, L_tc]; exact Finset.mem_singleton_self _)
    (fun g u hg => by obtain ⟨p, -, rfl⟩ := owedAt_pos c l g u hg; rw [L_tc]; exact Finset.mem_singleton_self _)
    (fun p hp => by rw [Finset.mem_singleton.mp hp]; exact le_refl _)
    (fun g u hg => by obtain ⟨p, hp, rfl⟩ := owedAt_pos c l g u hg; exact lt_of_lt_of_eq (h p hp) (level_rcv _ _).symm)

end Cert.KernelIdeal.Flow

end
-- ==== Proof.KernelIdeal.Ops.lean ====
/- What the operations on the memory of one device do: the loads and the stores of a flow. -/
module

public import proofs.«01_k».proof.Proof.KernelIdeal.Protocol
public import Idealize.ShloMosaic.Lib.Writes
public import Idealize.ShloMosaic.Lib.Exec.Geometry
public import Idealize.ShloMosaic.Lib.Pipeline.Value

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix3 shapeCast_ab_1ab_apply)

variable {F : FTy → Type} [FloatOps F] [Named F]

local notation "𝕄" => MT nD τ sig Unit (Elt F) ℕ UU ℕ

abbrev 𝒱₀ : Variants := Variants.none

/-- A program of device `c` runs to `Q`. -/
abbrev Runs (c : Dev nD) {α : Type} (p : TProg F α) (Q : α → sProp 𝕄) : sProp 𝕄 :=
  wp frame (wpE (defs₀ (F := F)) 𝒱₀ (c : Thread nD τ) none) Set.univ p Q

theorem runs_ret (c : Dev nD) {α : Type} (a : α) (Q : α → sProp 𝕄) : Q a ⊢ Runs c (.ret a) Q := by
  show _ ⊢ iprop(|={Set.univ}[frame]=> Q a)
  iintro H; imodintro; iexact H

/-! ## Two matrices, one above the other -/

/-- 256 rows above two rows. -/
def stack {α : Type} (t : S256x128.Idx → α) (l : S2x128.Idx → α) : S258x128.Idx → α := fun i =>
  if h : (i 0).val < 256 then t (ix2 (⟨(i 0).val, h⟩ : Fin 256) (i 1))
  else l (ix2 (⟨(i 0).val - 256, by have := (i 0).isLt; change (i 0).val < 258 at this; omega⟩ : Fin 2) (i 1))

/-- A row of the upper matrix. -/
theorem stack_top {α : Type} (t : S256x128.Idx → α) (l : S2x128.Idx → α) (i : S258x128.Idx) (a : Fin 256) (b : Fin 128)
    (h0 : (i 0).val = a.val) (h1 : (i 1).val = b.val) : stack t l i = t (ix2 a b) := by
  unfold stack
  rw [dif_pos (by omega)]
  exact congrArg t (congrArg₂ ix2 (Fin.ext h0) (Fin.ext h1))
/-- A row of the lower one. -/
theorem stack_low {α : Type} (t : S256x128.Idx → α) (l : S2x128.Idx → α) (i : S258x128.Idx) (a : Fin 2) (b : Fin 128)
    (h0 : (i 0).val = 256 + a.val) (h1 : (i 1).val = b.val) : stack t l i = l (ix2 a b) := by
  unfold stack
  rw [dif_neg (by omega)]
  exact congrArg l (congrArg₂ ix2 (Fin.ext (show (i 0).val - 256 = a.val by omega)) (Fin.ext h1))

/-- Rounding acts on each of the two. -/
theorem truncf_stack (t : FVec F S256x128 .f32) (l : FVec F S2x128 .f32) :
    truncf .bf16 (stack t l : FVec F S258x128 .f32) bitsLt_bf16_f32
      = (stack (truncf .bf16 t bitsLt_bf16_f32) (truncf .bf16 l bitsLt_bf16_f32) : FVec F S258x128 .bf16) := by
  funext i
  by_cases hi : (i 0).val < 256
  · simp only [truncf, stack, dif_pos hi]
  · simp only [truncf, stack, dif_neg hi]

/-- A flow's slice after its first 256 rows and its last two were stored. -/
theorem stacked_read {e : EltTy} (m : Memref sig .tc .vmem S8x258x128 e) (h : Fin 8) (f : m.view.ty.Contents (Elt F))
    (t : S256x128.Idx → Elt F e) (l : S2x128.Idx → Elt F e) :
    (m.slice (flowR h) (fun _ => rfl)).view.read (Elt F)
        (m.view.writes (Elt F) f [⟨lowR h, shapeCast S1x2x128 l shapeCasts_S2x128_S1x2x128⟩,
          ⟨topR h, shapeCast S1x256x128 t shapeCasts_S256x128_S1x256x128⟩])
      = shapeCast S1x258x128 (stack t l) shapeCasts_S258x128_S1x258x128 := by
  funext j
  have hj0 : (j 0).val = 0 := by have := (j 0).isLt; change (j 0).val < 1 at this; omega
  have hj1 : (j 1).val < 258 := (j 1).isLt
  have e0 : (((flowR h).emb j) 0).val = h.val := by show h.val + 1 * (j 0).val = _; omega
  have e1 : (((flowR h).emb j) 1).val = (j 1).val := by show 0 + 1 * (j 1).val = _; omega
  have e2 : (((flowR h).emb j) 2).val = (j 2).val := by show 0 + 1 * (j 2).val = _; omega
  refine (View.read_writes_apply_of_pieces m.view f
    (fun y => stack t l (ix2 (⟨(y 1).val, (y 1).isLt⟩ : Fin 258) (⟨(y 2).val, (y 2).isLt⟩ : Fin 128))) _ ?_ ((flowR h).emb j) ?_).trans ?_
  · intro p hp x
    simp only [List.mem_cons, List.not_mem_nil, _root_.or_false] at hp
    rcases hp with rfl | rfl
    · have x0 : (x 0).val = 0 := by have := (x 0).isLt; change (x 0).val < 1 at this; omega
      have x1 : (x 1).val < 2 := (x 1).isLt
      rw [show (x : S1x2x128.Idx) = ix3 (x 0) (x 1) (x 2) from eq_ix3 x]
      refine (shapeCast_ab_1ab_apply l _ _ _ _).trans ?_
      exact (stack_low t l _ (⟨(x 1).val, x1⟩ : Fin 2) (⟨(x 2).val, (x 2).isLt⟩ : Fin 128)
        (show (((lowR h).emb (ix3 (x 0) (x 1) (x 2))) 1).val = _ by show 256 + 1 * (x 1).val = 256 + (x 1).val; omega)
        (show (((lowR h).emb (ix3 (x 0) (x 1) (x 2))) 2).val = _ by show 0 + 1 * (x 2).val = (x 2).val; omega)).symm
    · have x1 : (x 1).val < 256 := (x 1).isLt
      rw [show (x : S1x256x128.Idx) = ix3 (x 0) (x 1) (x 2) from eq_ix3 x]
      refine (shapeCast_ab_1ab_apply t _ _ _ _).trans ?_
      exact (stack_top t l _ (⟨(x 1).val, x1⟩ : Fin 256) (⟨(x 2).val, (x 2).isLt⟩ : Fin 128)
        (show (((topR h).emb (ix3 (x 0) (x 1) (x 2))) 1).val = _ by show 0 + 1 * (x 1).val = (x 1).val; omega)
        (show (((topR h).emb (ix3 (x 0) (x 1) (x 2))) 2).val = _ by show 0 + 1 * (x 2).val = (x 2).val; omega)).symm
  · by_cases hlt : (j 1).val < 256
    · refine ⟨_, List.mem_cons_of_mem _ List.mem_cons_self, ?_⟩
      show (flowR h).emb j ∈ (topR h).set
      rw [Rect.mem_set_unit]; intro a
      match a with
      | 0 => exact ⟨by rw [e0]; exact le_refl _, by rw [e0]; show h.val < h.val + 1; omega⟩
      | 1 => exact ⟨by show 0 ≤ _; omega, by rw [e1]; show _ < 0 + 256; omega⟩
      | 2 => exact ⟨by show 0 ≤ _; omega, by rw [e2]; have := (j 2).isLt; change (j 2).val < 128 at this; show _ < 0 + 128; omega⟩
    · refine ⟨_, List.mem_cons_self, ?_⟩
      show (flowR h).emb j ∈ (lowR h).set
      rw [Rect.mem_set_unit]; intro a
      match a with
      | 0 => exact ⟨by rw [e0]; exact le_refl _, by rw [e0]; show h.val < h.val + 1; omega⟩
      | 1 => exact ⟨by rw [e1]; show 256 ≤ _; omega, by rw [e1]; show _ < 256 + 2; omega⟩
      | 2 => exact ⟨by show 0 ≤ _; omega, by rw [e2]; have := (j 2).isLt; change (j 2).val < 128 at this; show _ < 0 + 128; omega⟩
  · rw [show (j : S1x258x128.Idx) = ix3 (j 0) (j 1) (j 2) from eq_ix3 j]
    refine Eq.trans ?_ (shapeCast_ab_1ab_apply (stack t l) _ _ _ _).symm
    rw [← show (j : S1x258x128.Idx) = ix3 (j 0) (j 1) (j 2) from eq_ix3 j]
    exact congrArg (stack t l) (congrArg₂ ix2 (Fin.ext e1) (Fin.ext e2))

/-! ## Where the accesses lie -/

theorem topR_sub (h : Fin 8) : (topR h).set ⊆ (flowR h).set := fun i hi => by
  rw [Rect.mem_set_unit] at hi ⊢
  intro a
  have := hi a
  match a with
  | 0 => exact this
  | 1 => exact ⟨this.1, lt_of_lt_of_le this.2 (by show 0 + 256 ≤ 0 + 258; omega)⟩
  | 2 => exact this
theorem lowR_sub (h : Fin 8) : (lowR h).set ⊆ (flowR h).set := fun i hi => by
  rw [Rect.mem_set_unit] at hi ⊢
  intro a
  have := hi a
  match a with
  | 0 => exact this
  | 1 => exact ⟨by show 0 ≤ _; omega, lt_of_lt_of_le this.2 (by show 256 + 2 ≤ 0 + 258; omega)⟩
  | 2 => exact this

/-- A smaller rectangle of a memref lies in the larger one's elements. -/
theorem access_sub {κ : Kind} {sp : Space} {s : Shape} {e : EltTy} (m : Memref sig κ sp s e) {r r' : Rect s} (h : r.set ⊆ r'.set) :
    (m.access r).set ⊆ (m.access r').set := by
  rw [View.set_slice, View.set_slice]; exact Finset.map_subset_map.mpr h

/-! ## Owning a squeezed slice -/

/-- Owning a squeezed memref is owning the memref, reshaped. -/
theorem owns_squeeze (c : Dev nD) {sp : Space} {s s' : Shape} {e : EltTy} (m : Memref sig .tc sp s e) (hq : s.Squeezes s')
    (h : s'.ShapeCasts s) (X : s'.Idx → Elt F e) :
    (owns (c : Thread nD τ) (m.squeeze s' hq) fullShare X : sProp 𝕄) = owns (c : Thread nD τ) m fullShare (shapeCast s X h) := by
  have hr (f : m.view.ty.Contents (Elt F)) : (m.squeeze s' hq).view.read (Elt F) f = shapeCast s' (m.view.read (Elt F) f) h.symm := rfl
  have hiff (f : m.view.ty.Contents (Elt F)) : (m.squeeze s' hq).view.read (Elt F) f = X ↔ m.view.read (Elt F) f = shapeCast s X h := by
    rw [hr]
    constructor
    · rintro rfl; rw [shapeCast_shapeCast]
    · intro e; rw [e, shapeCast_shapeCast]
  unfold owns
  rw [Memref.set_view_squeeze m hq]
  show iprop(∃ f : m.view.ty.Contents (Elt F), ⌜(m.squeeze s' hq).view.read (Elt F) f = X⌝ ∗ _) = _
  simp only [hiff]

/-! ## Loads and stores of a slice held -/

section Access

variable {α : Type} (c : Dev nD) {s : Shape} {e : EltTy}

/-- A load of a slice that is held reads what it is held at. -/
theorem load_slice (m : Memref sig .tc .vmem s e) (r : Rect s) (hr : ∀ a, r.stride a = 1) {hl : m.view.LoadsAt r.toLoadRect}
    {k : (r.shape.Idx → Elt F e) → TProg F α} {Q : α → sProp 𝕄} (X : r.shape.Idx → Elt F e) (q : PosShare TreeShare) :
    (owns (c : Thread nD τ) (m.slice r hr) q X : sProp 𝕄)
      ⊢ iprop((owns (c : Thread nD τ) (m.slice r hr) q X -∗ Runs c (k X) Q)
        -∗ Runs c (.op (.load m r.toLoadRect hl) k) Q) := by
  unfold owns
  iintro ⟨%f, %hf, H⟩ Hk
  iapply (wp_load_rect 𝒱₀ (c : Thread nD τ) none Set.univ (m := m) (r := r) (hl := hl) (k := k) (q := q) (f := f) (Finset.Subset.refl _)) $$ H
  iintro H
  rw [show (m.access r).read (Elt F) f = X from hf]
  iapply Hk
  iexists f
  isplitr; · ipureintro; exact hf
  iexact H

/-- A store to a slice that is held leaves it at what was stored. -/
theorem store_slice (m : Memref sig .tc .vmem s e) (r : Rect s) (hr : ∀ a, r.stride a = 1) {w : r.shape.Idx → Elt F e}
    {hx : (m.access r).Stores Finset.univ} {hm : Finset.univ = Finset.univ ∨ ∀ a, r.stride a = 1}
    {k : PUnit → TProg F α} {Q : α → sProp 𝕄} (X : r.shape.Idx → Elt F e) :
    (owns (c : Thread nD τ) (m.slice r hr) fullShare X : sProp 𝕄)
      ⊢ iprop((owns (c : Thread nD τ) (m.slice r hr) fullShare w -∗ Runs c (k ⟨⟩) Q)
        -∗ Runs c (.op (.store m r w Finset.univ hx hm) k) Q) := by
  unfold owns
  iintro ⟨%f, %hf, H⟩ Hk
  iapply (wp_store 𝒱₀ (c : Thread nD τ) none Set.univ (m := m) (r := r) (w := w) (Mk := Finset.univ) (hx := hx) (hm := hm) (k := k) (f := f)
    (S := (m.slice r hr).view.set) (by rw [View.setOn_univ])) $$ H
  iintro H
  iapply Hk
  iexists (m.access r).write (Elt F) f w Finset.univ
  isplitr; · ipureintro; exact View.read_write_univ _ _
  iexact H

/-- A load of a part of what is held. -/
theorem load_part (m : Memref sig .tc .vmem s e) (r r' : Rect s) {hl : m.view.LoadsAt r.toLoadRect} (h : r.set ⊆ r'.set)
    {k : (r.shape.Idx → Elt F e) → TProg F α} {Q : α → sProp 𝕄} (q : PosShare TreeShare) (f : m.view.ty.Contents (Elt F)) :
    (m.view.loc (c : Thread nD τ) ↦[(m.access r').set]{q} f : sProp 𝕄)
      ⊢ iprop(((m.view.loc (c : Thread nD τ) ↦[(m.access r').set]{q} f) -∗ Runs c (k ((m.access r).read (Elt F) f)) Q)
        -∗ Runs c (.op (.load m r.toLoadRect hl) k) Q) :=
  wp_load_rect 𝒱₀ (c : Thread nD τ) none Set.univ (m := m) (r := r) (hl := hl) (k := k) (q := q) (f := f) (access_sub m h)

end Access

/-! ## The operations of a flow -/

/-- A slice stored in two pieces. -/
theorem store_two (c : Dev nD) {α : Type} {e : EltTy} (m : Memref sig .tc .vmem S8x258x128 e) (h : Fin 8)
    (t : S256x128.Idx → Elt F e) (l : S2x128.Idx → Elt F e) (Z : S1x258x128.Idx → Elt F e)
    {hl₁ : m.view.LoadsAt (topR h).toLoadRect} {hl₂ : m.view.LoadsAt (lowR h).toLoadRect}
    {hx₁ : (m.access (topR h)).Stores Finset.univ} {hx₂ : (m.access (lowR h)).Stores Finset.univ}
    {hm₁ : Finset.univ = Finset.univ ∨ ∀ a, (topR h).stride a = 1} {hm₂ : Finset.univ = Finset.univ ∨ ∀ a, (lowR h).stride a = 1}
    {k : PUnit → TProg F α} {Q : α → sProp 𝕄} :
    (owns (c : Thread nD τ) (m.slice (flowR h) (fun _ => rfl)) fullShare Z : sProp 𝕄)
      ⊢ iprop((owns (c : Thread nD τ) (m.slice (flowR h) (fun _ => rfl)) fullShare
            (shapeCast S1x258x128 (stack t l) shapeCasts_S258x128_S1x258x128) -∗ Runs c (k ⟨⟩) Q)
        -∗ Runs c (.op (.load m (topR h).toLoadRect hl₁) fun _ =>
            .op (.store m (topR h) (shapeCast S1x256x128 t shapeCasts_S256x128_S1x256x128) Finset.univ hx₁ hm₁) fun _ =>
            .op (.load m (lowR h).toLoadRect hl₂) fun _ =>
            .op (.store m (lowR h) (shapeCast S1x2x128 l shapeCasts_S2x128_S1x2x128) Finset.univ hx₂ hm₂) k) Q) := by
  unfold owns
  iintro ⟨%f, -, H⟩ Hk
  iapply (load_part c m (topR h) (flowR h) (topR_sub h) fullShare f) $$ H
  iintro H
  iapply (wp_store_writes₀ 𝒱₀ (c : Thread nD τ) none Set.univ (m := m) (r := topR h) (f := f) (access_sub m (topR_sub h))) $$ H
  iintro H
  iapply (load_part c m (lowR h) (flowR h) (lowR_sub h) fullShare _) $$ H
  iintro H
  iapply (wp_store_writes 𝒱₀ (c : Thread nD τ) none Set.univ (m := m) (r := lowR h) (f := f) (access_sub m (lowR_sub h))) $$ H
  iintro H
  iapply Hk
  iexists _
  isplitr; · ipureintro; exact stacked_read m h f t l
  iexact H

/-- A flow's partial, at contents not chosen. -/
abbrev accAny (c : Dev nD) (h : Fin 8) : sProp 𝕄 := iprop(∃ X, accO c h X)
/-- What a flow sends, at contents not chosen. -/
abbrev sndAny (c : Dev nD) (h : Fin 8) : sProp 𝕄 := iprop(∃ X, sndO c h X)

/-- What a flow stores first. -/
def partial₀ (pv : FVec F S256x256 .f32) : FVec F S258x128 .f32 := stack (topVal pv) (lowVal pv)

/-- `compute` leaves the flow's partial, and the same as it will be sent. -/
theorem compute_runs (c : Dev nD) (h : Fin 8) (pv : FVec F S256x256 .f32) :
    iprop(accAny c h ∗ sndAny c h)
      ⊢ Runs c (compute h pv) (fun _ => iprop(accO c h (partial₀ pv) ∗ sndO c h (truncf .bf16 (partial₀ pv) bitsLt_bf16_f32))) := by
  unfold compute
  simp only [Prog.bind_lift]
  iintro ⟨⟨%X, HA⟩, ⟨%Y, HS⟩⟩
  iapply (store_two c accM h (topVal pv) (lowVal pv) _) $$ HA
  iintro HA
  ihave HS := (Entails.of_eq (owns_squeeze c (sndM.slice (flowR h) (fun _ => rfl)) squeezes_S1x258x128_S258x128 shapeCasts_S258x128_S1x258x128 Y)) $$ HS
  iapply (store_two c sndM h (truncf .bf16 (topVal pv) bitsLt_bf16_f32) (truncf .bf16 (lowVal pv) bitsLt_bf16_f32) _) $$ HS
  iintro HS
  iapply runs_ret
  isplitl [HA]
  · iexact HA
  · unfold partial₀
    rw [truncf_stack]
    iapply (Entails.of_eq (owns_squeeze c (sndM.slice (flowR h) (fun _ => rfl)) squeezes_S1x258x128_S258x128 shapeCasts_S258x128_S1x258x128 _).symm)
    iexact HS

theorem sumVal_eq (X : FVec F S258x128 .f32) (R : FVec F S258x128 .bf16) :
    sumVal (shapeCast S1x258x128 X shapeCasts_S258x128_S1x258x128)
      (shapeCast S1x1x258x128 R (shapeCasts_S1x1x258x128_S258x128).symm) = addf X (extf .f32 R bitsLt_bf16_f32) := by
  unfold sumVal
  rw [shapeCast_shapeCast, shapeCast_shapeCast]

/-- A slot held as a matrix is held as a slice. -/
theorem rcvO_eq (c : Dev nD) (h : Fin 8) (s : Fin 4) (R : FVec F S258x128 .bf16) :
    (rcvO c h s R : sProp 𝕄) = owns (c : Thread nD τ) (rcvM.slice (slotR h s) (fun _ => rfl)) fullShare
      (shapeCast S1x1x258x128 R (shapeCasts_S1x1x258x128_S258x128).symm) :=
  owns_squeeze c (rcvM.slice (slotR h s) (fun _ => rfl)) squeezes_S1x1x258x128_S258x128 _ R
/-- What is sent, held as a matrix, is held as a slice. -/
theorem sndO_eq (c : Dev nD) (h : Fin 8) (X : FVec F S258x128 .bf16) :
    (sndO c h X : sProp 𝕄) = owns (c : Thread nD τ) (sndM.slice (flowR h) (fun _ => rfl)) fullShare
      (shapeCast S1x258x128 X shapeCasts_S258x128_S1x258x128) :=
  owns_squeeze c (sndM.slice (flowR h) (fun _ => rfl)) squeezes_S1x258x128_S258x128 _ X

/-- `accumulate` adds what landed. -/
theorem accumulate_runs (c : Dev nD) (h : Fin 8) (s : Fin 4) (X : FVec F S258x128 .f32) (R : FVec F S258x128 .bf16) :
    iprop(accO c h X ∗ sndAny c h ∗ rcvO c h s R)
      ⊢ Runs c (accumulate h s) (fun _ => iprop(accO c h (addf X (extf .f32 R bitsLt_bf16_f32))
          ∗ sndO c h (truncf .bf16 (addf X (extf .f32 R bitsLt_bf16_f32)) bitsLt_bf16_f32) ∗ rcvO c h s R)) := by
  unfold accumulate
  simp only [Prog.bind_lift, rcvO_eq, sndO_eq]
  iintro ⟨HA, ⟨%Y, HS⟩, HR⟩
  ihave HS := (Entails.of_eq (sndO_eq c h Y)) $$ HS
  iapply (load_slice c accM (flowR h) (fun _ => rfl) _ fullShare) $$ HA
  iintro HA
  iapply (load_slice c rcvM (slotR h s) (fun _ => rfl) _ fullShare) $$ HR
  iintro HR
  rw [sumVal_eq]
  iapply (load_slice c accM (flowR h) (fun _ => rfl) _ fullShare) $$ HA
  iintro HA
  iapply (store_slice c accM (flowR h) (fun _ => rfl) _) $$ HA
  iintro HA
  iapply (load_slice c sndM (flowR h) (fun _ => rfl) _ fullShare) $$ HS
  iintro HS
  iapply (store_slice c sndM (flowR h) (fun _ => rfl) _) $$ HS
  iintro HS
  iapply runs_ret
  isplitl [HA]; · iexact HA
  isplitl [HS]; · iexact HS
  iexact HR

end Cert.KernelIdeal.Flow

end
-- ==== Proof.KernelIdeal.Steps.lean ====
/- What the semaphore operations and the copies of one device do, by the protocol: the signals, the barrier, one
   copy, one wait, and from them one exchange of a flow. -/
module

public import proofs.«01_k».proof.Proof.KernelIdeal.Ops

@[expose] public section

set_option maxRecDepth 8000

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Fin 8 → FVec F S258x128 .f32) (κ : GSem nD τ sig → ℕ)

/-! ## The cells, and what every device may consult -/

/-- The semaphores of the copies: of a flow and a stage, where it is sent and where it lands. -/
def copySem : Bool × Fin 8 × Fin 4 → SemLoc sig
  | (false, h, s) => .dma (sndS h s)
  | (true, h, s) => .dma (rcvS h s)

theorem copySem_inj : Function.Injective copySem := by
  rintro ⟨a, h, s⟩ ⟨a', h', s'⟩ e
  have := h.isLt; have := h'.isLt; have := s.isLt; have := s'.isLt
  cases a <;> cases a'
  · have e' := congrArg Fin.val (SemLoc.dma.inj e); rw [sndS_val, sndS_val] at e'
    exact Prod.ext rfl (Prod.ext (Fin.ext (by show h.val = h'.val; omega)) (Fin.ext (by show s.val = s'.val; omega)))
  · have e' := congrArg Fin.val (SemLoc.dma.inj e); rw [sndS_val, rcvS_val] at e'; omega
  · have e' := congrArg Fin.val (SemLoc.dma.inj e); rw [sndS_val, rcvS_val] at e'; omega
  · have e' := congrArg Fin.val (SemLoc.dma.inj e); rw [rcvS_val, rcvS_val] at e'
    exact Prod.ext rfl (Prod.ext (Fin.ext (by show h.val = h'.val; omega)) (Fin.ext (by show s.val = s'.val; omega)))

def barEmb : Dev nD ↪ GSem nD τ sig := ⟨fun c => barCell c, fun _ _ h => congrArg (fun g : GSem nD τ sig => g.1.1) h⟩
def copyEmb : Dev nD × (Bool × Fin 8 × Fin 4) ↪ GSem nD τ sig :=
  ⟨fun x => ((x.1 : Thread nD τ), copySem x.2), fun _ _ h =>
    Prod.ext (congrArg (fun g : GSem nD τ sig => g.1.1) h) (copySem_inj (congrArg Prod.snd h))⟩
abbrev barCells : Finset (GSem nD τ sig) := Finset.univ.map barEmb
abbrev copyCells : Finset (GSem nD τ sig) := Finset.univ.map copyEmb

theorem bar_mem (c : Dev nD) : barCell c ∈ (barCells ∪ copyCells : Finset (GSem nD τ sig)) :=
  Finset.mem_union_left _ (Finset.mem_map_of_mem barEmb (Finset.mem_univ c))
theorem copy_mem (c : Dev nD) (x : Bool × Fin 8 × Fin 4) :
    ((c : Thread nD τ), copySem x) ∈ (barCells ∪ copyCells : Finset (GSem nD τ sig)) :=
  Finset.mem_union_right _ (Finset.mem_map_of_mem copyEmb (Finset.mem_univ (c, x)))

/-- The invariants of all cells, that every barrier cell is at its first round, and the levels. -/
def shared : sProp 𝕄 :=
  iprop((bigSep (barCells ∪ copyCells) fun g => cellInv ER (exch P) (κ g) g) ∗ (bigSep barCells fun g => reached ER g 0) ∗ levAts L lv)
instance shared_persistent : BI.Persistent (shared P κ) := by unfold shared; infer_instance

theorem shared_inv {g : GSem nD τ sig} (hg : g ∈ (barCells ∪ copyCells : Finset (GSem nD τ sig))) :
    shared P κ ⊢ cellInv ER (exch P) (κ g) g := by
  unfold shared
  exact sep_elim_left.trans (bigSep_elim hg)
theorem shared_bar (c : Dev nD) : shared P κ ⊢ cellInv ER (exch P) (κ (barCell c)) (barCell c) := shared_inv P κ (bar_mem c)
theorem shared_snd (c : Dev nD) (h : Fin 8) (s : Fin 4) : shared P κ ⊢ cellInv ER (exch P) (κ (sndCell c h s)) (sndCell c h s) :=
  shared_inv P κ (copy_mem c (false, h, s))
theorem shared_rcv (c : Dev nD) (h : Fin 8) (s : Fin 4) : shared P κ ⊢ cellInv ER (exch P) (κ (rcvCell c h s)) (rcvCell c h s) :=
  shared_inv P κ (copy_mem c (true, h, s))
theorem shared_reached (c : Dev nD) : shared P κ ⊢ reached (ER (F := F)) (barCell c) 0 := by
  unfold shared
  exact sep_elim_right.trans (sep_elim_left.trans (bigSep_elim (Finset.mem_map_of_mem barEmb (Finset.mem_univ c))))
theorem shared_lev : shared P κ ⊢ levAts L lv := by
  unfold shared
  iintro ⟨-, -, H⟩; iexact H

theorem shared_wait (c : Dev nD) (sm : SemLoc sig) (l : List (Fin 8 × Fin 4)) (h : ∀ p ∈ l, level sm < 2 + p.2.val) :
    shared P κ ⊢ (MayWait (c : Thread nD τ) sm () (owedAt c l) : sProp 𝕄) :=
  (shared_lev P κ).trans (mayWait c sm l h)

/-! ## The invariant of a run: what is owed -/

/-- The core owes `O`, whatever it has waited for. -/
def owing (c : Dev nD) (O : CellTallies nD τ sig Unit) : sProp 𝕄 := iprop(shared P κ ∗ ∃ W, owes (c : Thread nD τ) O W)

/-! ## Lists of operations -/

/-- What holds after the first part runs the second. -/
theorem runs_seq (c : Dev nD) {α β : Type} (p : TProg F α) (k : α → TProg F β) (A : α → sProp 𝕄) (B : β → sProp 𝕄) :
    Runs c p A ⊢ iprop((∀ a, A a -∗ Runs c (k a) B) -∗ Runs c (p >>= k) B) := by
  show _ ⊢ iprop(_ -∗ wp _ _ _ (p >>= k) B)
  rw [wp_bind]
  exact wp_wand _ _ _
/-- A weaker claim about what holds in the end. -/
theorem runs_wand (c : Dev nD) {α : Type} (p : TProg F α) (A B : α → sProp 𝕄) :
    Runs c p A ⊢ iprop((∀ a, A a -∗ B a) -∗ Runs c p B) := wp_wand _ _ _

/-- Operations in order: each turns its own part of what is held, and the invariant at the list from it on into the
    invariant at the rest. -/
theorem runAll_runs {ι : Type} (c : Dev nD) (f : ι → TProg F PUnit) (A B : ι → sProp 𝕄) (J : List ι → sProp 𝕄)
    (step : ∀ i l, iprop(A i ∗ J (i :: l)) ⊢ Runs c (f i) (fun _ => iprop(B i ∗ J l))) :
    ∀ l : List ι, iprop(bigSepL l A ∗ J l) ⊢ Runs c (runAll f l) (fun _ => iprop(bigSepL l B ∗ J []))
  | [] => by
    iintro ⟨-, HJ⟩
    iapply (runs_ret c PUnit.unit (fun _ => iprop(bigSepL [] B ∗ J [])))
    isplitr; · rw [bigSepL_nil]; iempintro
    iexact HJ
  | i :: l => by
    rw [bigSepL_cons', bigSepL_cons']
    show _ ⊢ Runs c (f i >>= fun _ => runAll f l) _
    iintro ⟨⟨HA, HL⟩, HJ⟩
    ihave H := (step i l) $$ [HA HJ]
    · isplitl [HA] <;> iassumption
    iapply (runs_seq c (f i) _ _ _) $$ H
    iintro %_ ⟨HB, HJ⟩
    ihave H := (runAll_runs c f A B J step l) $$ [HL HJ]
    · isplitl [HL] <;> iassumption
    iapply (runs_wand c _ _ _) $$ H
    iintro %_ ⟨HL, HJ⟩
    isplitr [HJ]
    · isplitl [HB] <;> iassumption
    iexact HJ

/-- Operations in order on a running value, each of which makes `g` of it. -/
theorem runFold_runs {ι α : Type} (c : Dev nD) (f : ι → α → TProg F α) (g : ι → α → α) (A B : ι → sProp 𝕄) (J : sProp 𝕄)
    (step : ∀ i a, iprop(A i ∗ J) ⊢ Runs c (f i a) (fun b => iprop(⌜b = g i a⌝ ∗ B i ∗ J))) :
    ∀ (l : List ι) (a : α), iprop(bigSepL l A ∗ J)
      ⊢ Runs c (runFold f l a) (fun b => iprop(⌜b = l.foldl (fun a i => g i a) a⌝ ∗ bigSepL l B ∗ J))
  | [], a => by
    iintro ⟨-, HJ⟩
    iapply (runs_ret c a (fun b => iprop(⌜b = a⌝ ∗ bigSepL [] B ∗ J)))
    isplitr; · ipureintro; rfl
    isplitr; · rw [bigSepL_nil]; iempintro
    iexact HJ
  | i :: l, a => by
    rw [bigSepL_cons', bigSepL_cons']
    show _ ⊢ Runs c (f i a >>= fun b => runFold f l b) _
    iintro ⟨⟨HA, HL⟩, HJ⟩
    ihave H := (step i a) $$ [HA HJ]
    · isplitl [HA] <;> iassumption
    iapply (runs_seq c (f i a) _ _ _) $$ H
    iintro %b ⟨%hb, HB, HJ⟩
    subst hb
    ihave H := (runFold_runs c f g A B J step l (g i a)) $$ [HL HJ]
    · isplitl [HL] <;> iassumption
    iapply (runs_wand c _ _ _) $$ H
    iintro %b ⟨%hb, HL, HJ⟩
    isplitr; · ipureintro; exact hb
    isplitr [HJ]
    · isplitl [HB] <;> iassumption
    iexact HJ

/-! ## Signals -/

/-- A signal to the device that differs in bit `b`, with the slots it will write. -/
theorem signal_runs (c : Dev nD) (l : List (Fin 8 × Fin 4)) (b : Fin 4) (l' : List (Fin 4)) :
    iprop((dutyTok (ER (F := F)) (barCell (partner b c)) 0 b ∗ bigSepL flows fun h => slotFree c h (stageOf h b))
        ∗ owing P κ c (owedAt c l + owedBar c (b :: l')))
      ⊢ Runs c (semSignalWord (sigOf c b) barS 1#32) (fun _ => iprop(emp ∗ owing P κ c (owedAt c l + owedBar c l'))) := by
  have hpay : (bigSepL flows fun h => slotFree c h (stageOf h b) : sProp 𝕄) = (exch P).payload (barCell (partner b c)) 0 b := by
    show _ = barPay (partner b c) b
    unfold barPay
    rw [partner_partner]
  rw [sigOf_eq]
  unfold owing
  show _ ⊢ Runs c (.op (.semSignal (partner b c : Thread nD τ) barS ((1 : ℕ) : ℤ)) .ret) _
  iintro ⟨⟨HT, HS⟩, #HI, ⟨%W, HO⟩⟩
  iapply (Rounds.wp_signal 𝒱₀ ER (exch P) (c : Thread nD τ) none (dst := (partner b c : Thread nD τ)) (sem := barS) (r := 0) (d := b)
      (κ := κ (barCell (partner b c))) (k' := 1) (by rw [duties_tc]; exact Finset.mem_univ _) rfl () (owedAt c l + owedBar c l')
      (show owedAt c l + owedBar c (b :: l') = _ by rw [owedBar_cons, add_assoc])) $$ [HO HT HS]
  · isplitr; · iapply (shared_bar P κ (partner b c)); iexact HI
    isplitl [HO]; · iexact HO
    isplitl [HT]; · iexact HT
    isplitl [HS]
    · iapply (Entails.of_eq hpay); iexact HS
    iapply (shared_reached P κ (partner b c)); iexact HI
  iintro HO
  iapply runs_ret
  isplitr; · iempintro
  isplitr; · iexact HI
  iexists W; iexact HO

/-! ## Copies -/

theorem credit_snd (h : Fin 8) : (sndV h).view.dmaCredit = N := rfl
theorem credit_rcv (h : Fin 8) (s : Fin 4) : (rcvV h s).view.dmaCredit = N := rfl

/-- What the copy of flow `h` at stage `s` takes besides what it sends. -/
def ToSend (c : Dev nD) (h : Fin 8) (s : Fin 4) : sProp 𝕄 :=
  iprop(dutyTok (ER (F := F)) (sndCell c h s) 0 0 ∗ reached (ER (F := F)) (sndCell c h s) 0
    ∗ dutyTok (ER (F := F)) (rcvCell (peer h s c) h s) 0 0 ∗ slotFree (peer h s c) h s)

/-- A copy in flight is waited for where it was sent. -/
abbrev sentCred (c : Dev nD) (h : Fin 8) (s : Fin 4) : sProp 𝕄 := cred (tallyAt (sndCell c h s) () N)

theorem peer_peer (h : Fin 8) (s : Fin 4) (c : Dev nD) : peer h s (peer h s c) = c := partner_partner _ _

/-- The copy of flow `h` at stage `s`. -/
theorem start_runs (c : Dev nD) (h : Fin 8) (s : Fin 4) (l : List (Fin 8 × Fin 4)) :
    iprop(sndO c h (sent P h s.val c) ∗ ToSend c h s ∗ owing P κ c (owedAt c ((h, s) :: l)))
      ⊢ Runs c (start h s (dstOf c s h)) (fun _ => iprop(sentCred c h s ∗ owing P κ c (owedAt c l))) := by
  rw [dstOf_eq]
  unfold owing ToSend slotFree start Prog.lift sndO rcvO owns
  iintro ⟨HS, ⟨HTs, HRs, HTr, ⟨%Y, HD⟩, HRr⟩, #HI, ⟨%W, HO⟩⟩
  icases HS with ⟨%fs, %hfs, HS⟩
  icases HD with ⟨%fd, -, HD⟩
  iapply (Rounds.wp_send_pointsTo 𝒱₀ ER (exch P) (c : Thread nD τ) none (c' := (peer h s c : Thread nD τ)) (src := sndV h) (dst := rcvV h s)
      (sS := .dma (sndS h s)) (sem := .dma (rcvS h s)) (q := fullShare) (fs := fs) (fd := fd) (κ₁ := κ (sndCell c h s))
      (κ₂ := κ (rcvCell (peer h s c) h s)) (r₁ := 0) (r₂ := 0) (d₁ := 0) (d₂ := 0)
      (by rw [duties_tc]; exact Finset.mem_singleton_self _) (by rw [duties_tc]; exact Finset.mem_singleton_self _)
      () () N (credit_rcv h s) rfl rfl (owedAt c l) (owedAt_cons c (h, s) l) (W := W)
      (by
        rw [payload_snd]; unfold sndPay sndO
        refine (owns_intro (c : Thread nD τ) (sndV h) fullShare fs).trans ?_
        iintro H; iexists _; iexact H)
      (by
        rw [payload_rcv]; unfold rcvPay rcvO
        rw [peer_peer, ← hfs]
        refine (owns_intro (peer h s c : Thread nD τ) (rcvV h s) fullShare _).trans ?_
        rw [View.read_write_univ])) $$ [HS HD HO HTs HRs HTr HRr]
  · isplitr; · iapply (shared_snd P κ c h s); iexact HI
    isplitr; · iapply (shared_rcv P κ (peer h s c) h s); iexact HI
    isplitl [HS]; · iexact HS
    isplitl [HD]; · iexact HD
    isplitl [HO]; · iexact HO
    isplitl [HTs]; · iexact HTs
    isplitl [HRs]; · iexact HRs
    isplitl [HTr]; · iexact HTr
    iexact HRr
  iintro ⟨HC, HO⟩
  iapply runs_ret
  isplitl [HC]; · iexact HC
  isplitr; · iexact HI
  iexists W; iexact HO

/-! ## Waits -/

/-- What the two waits of flow `h` at stage `s` take besides the copy's own credit. -/
def ToWait (c : Dev nD) (h : Fin 8) (s : Fin 4) : sProp 𝕄 :=
  iprop(atPos (ER (F := F)) (sndCell c h s) 0 ∅ 0 ∗ atPos (ER (F := F)) (rcvCell c h s) 0 ∅ 0 ∗ cred (tallyAt (rcvCell c h s) () N))
/-- Both cells at their last round. -/
def Waited (c : Dev nD) (h : Fin 8) (s : Fin 4) : sProp 𝕄 :=
  iprop(atPos (ER (F := F)) (sndCell c h s) 1 ∅ 0 ∗ atPos (ER (F := F)) (rcvCell c h s) 1 ∅ 0)

theorem wait_sent_eq (c : Dev nD) (h : Fin 8) (s : Fin 4) (h₁ : (rcvV h s).view.WordExact) (h₂ : (sndV h).view.WordExact)
    (K : PUnit → sProp 𝕄) :
    wpE defs₀ 𝒱₀ (c : Thread nD τ) none Set.univ (.waitDma2 (sndS h s) (rcvV h s) (sndV h) h₁ h₂) K
      = waitSpec (c : Thread nD τ) Set.univ (.dma (sndS h s)) N K := by
  rw [wpE_waitDma2_eq, credit_snd]
theorem wait_landed_eq (c : Dev nD) (h : Fin 8) (s : Fin 4) (h₁ : (sndV h).view.WordExact) (h₂ : (rcvV h s).view.WordExact)
    (K : PUnit → sProp 𝕄) :
    wpE defs₀ 𝒱₀ (c : Thread nD τ) none Set.univ (.waitDma2 (rcvS h s) (sndV h) (rcvV h s) h₁ h₂) K
      = waitSpec (c : Thread nD τ) Set.univ (.dma (rcvS h s)) N K := by
  rw [wpE_waitDma2_eq, credit_rcv]

/-- Waiting until what was sent has left gives it back. -/
theorem waitSent_runs (c : Dev nD) (h : Fin 8) (s : Fin 4) (l : List (Fin 8 × Fin 4)) :
    iprop(sentCred c h s ∗ atPos (ER (F := F)) (sndCell c h s) 0 ∅ 0 ∗ owing P κ c (owedAt c l))
      ⊢ Runs c (waitSent h s) (fun _ => iprop(sndAny c h ∗ atPos (ER (F := F)) (sndCell c h s) 1 ∅ 0 ∗ owing P κ c (owedAt c l))) := by
  have hw : ∀ p ∈ l, level (.dma (sndS h s)) < 2 + p.2.val := fun p _ => by
    rw [level_snd]; exact Nat.lt_of_lt_of_le (by decide : 0 < 2) (Nat.le_add_right _ _)
  unfold owing waitSent Prog.lift
  iintro ⟨HC, HA, #HI, ⟨%W, HO⟩⟩
  iapply (Rounds.wp_wait_rest_token 𝒱₀ ER (exch P) (c : Thread nD τ) none (κ := κ (sndCell c h s)) (k' := N)
      (wait_sent_eq c h s _ _) (Set.mem_univ _) () (O := owedAt c l) (W := W) (R := 0) (m := 0) (T := ∅)
      ((Nat.zero_add _).trans (expect_dma P c (sndS h s)).symm)) $$ [HC HO HA]
  · isplitr; · iapply (shared_snd P κ c h s); iexact HI
    isplitl [HC]; · iexact HC
    isplitl [HO]; · iexact HO
    isplitr
    · iapply (shared_wait P κ c (.dma (sndS h s)) l hw); iexact HI
    iexact HA
  iintro ⟨HO, HA, -, HP⟩
  iapply runs_ret
  ihave HP := (Entails.of_eq (rest_snd P c h s)) $$ HP
  isplitl [HP]; · unfold sndPay; iexact HP
  isplitl [HA]; · iexact HA
  isplitr; · iexact HI
  iexists _; iexact HO

/-- Waiting until the partner's copy has landed gives the slot, holding what the partner sent. -/
theorem waitLanded_runs (c : Dev nD) (h : Fin 8) (s : Fin 4) (l : List (Fin 8 × Fin 4)) (hl : ∀ p ∈ l, s.val < p.2.val) :
    iprop(cred (tallyAt (rcvCell c h s) () N) ∗ atPos (ER (F := F)) (rcvCell c h s) 0 ∅ 0 ∗ owing P κ c (owedAt c l))
      ⊢ Runs c (waitLanded h s) (fun _ => iprop(rcvO c h s (sent P h s.val (peer h s c))
          ∗ atPos (ER (F := F)) (rcvCell c h s) 1 ∅ 0 ∗ owing P κ c (owedAt c l))) := by
  have hw : ∀ p ∈ l, level (.dma (rcvS h s)) < 2 + p.2.val := fun p hp => by
    rw [level_rcv]; exact Nat.add_lt_add_left (hl p hp) 2
  unfold owing waitLanded Prog.lift
  iintro ⟨HC, HA, #HI, ⟨%W, HO⟩⟩
  iapply (Rounds.wp_wait_rest_token 𝒱₀ ER (exch P) (c : Thread nD τ) none (κ := κ (rcvCell c h s)) (k' := N)
      (wait_landed_eq c h s _ _) (Set.mem_univ _) () (O := owedAt c l) (W := W) (R := 0) (m := 0) (T := ∅)
      ((Nat.zero_add _).trans (expect_dma P c (rcvS h s)).symm)) $$ [HC HO HA]
  · isplitr; · iapply (shared_rcv P κ c h s); iexact HI
    isplitl [HC]; · iexact HC
    isplitl [HO]; · iexact HO
    isplitr
    · iapply (shared_wait P κ c (.dma (rcvS h s)) l hw); iexact HI
    iexact HA
  iintro ⟨HO, HA, -, HP⟩
  iapply runs_ret
  ihave HP := (Entails.of_eq (rest_rcv P c h s)) $$ HP
  isplitl [HP]; · unfold rcvPay; iexact HP
  isplitl [HA]; · iexact HA
  isplitr; · iexact HI
  iexists _; iexact HO

/-- The barrier gives the slots of the partners. -/
theorem barrier_runs (c : Dev nD) (l : List (Fin 8 × Fin 4)) :
    iprop(cred (tallyAt (barCell c) () 4) ∗ atPos (ER (F := F)) (barCell c) 0 ∅ 0 ∗ owing P κ c (owedAt c l))
      ⊢ Runs c (semWaitWord barS 4#32) (fun _ => iprop((bigSep Finset.univ fun b => barPay c b)
          ∗ atPos (ER (F := F)) (barCell c) 1 ∅ 0 ∗ owing P κ c (owedAt c l))) := by
  have hw : ∀ p ∈ l, level (.reg barS) < 2 + p.2.val := fun p _ =>
    Nat.lt_of_lt_of_le (by decide : 1 < 2) (Nat.le_add_right _ _)
  unfold owing
  show _ ⊢ Runs c (.op (.semWait barS ((4 : ℕ) : ℤ)) .ret) _
  iintro ⟨HC, HA, #HI, ⟨%W, HO⟩⟩
  iapply (Rounds.wp_wait_rest_token 𝒱₀ ER (exch P) (c : Thread nD τ) none (κ := κ (barCell c)) (k' := 4)
      (wpE_semWait_eq 𝒱₀ (c : Thread nD τ) none Set.univ) (Set.mem_univ _) () (O := owedAt c l) (W := W) (R := 0) (m := 0) (T := ∅)
      ((Nat.zero_add _).trans (expect_bar P c).symm)) $$ [HC HO HA]
  · isplitr; · iapply (shared_bar P κ c); iexact HI
    isplitl [HC]; · iexact HC
    isplitl [HO]; · iexact HO
    isplitr
    · iapply (shared_wait P κ c (.reg barS) l hw); iexact HI
    iexact HA
  iintro ⟨HO, HA, -, HP⟩
  iapply runs_ret
  ihave HP := (Entails.of_eq (rest_bar P c)) $$ HP
  isplitl [HP]; · iexact HP
  isplitl [HA]; · iexact HA
  isplitr; · iexact HI
  iexists _; iexact HO

/-! ## One flow at one stage -/

/-- A flow whose copy of stage `s` is in flight. -/
def Flying (c : Dev nD) (h : Fin 8) (s : Fin 4) : sProp 𝕄 := iprop(accO c h (part P h s.val c) ∗ sentCred c h s)
/-- What a finished stage leaves. -/
def Done (c : Dev nD) (h : Fin 8) (s : Fin 4) : sProp 𝕄 := iprop(Waited c h s ∗ ∃ X, rcvO c h s X)

theorem part_succ (c : Dev nD) (h : Fin 8) (s : Fin 4) :
    part P h (s.val + 1) c = addf (part P h s.val c) (extf .f32 (sent P h s.val (peer h s c)) bitsLt_bf16_f32) := by
  show addf _ (extf .f32 (truncf .bf16 (part P h s.val (peer h ⟨s.val % 4, _⟩ c)) bitsLt_bf16_f32) bitsLt_bf16_f32) = _
  rw [show (⟨s.val % 4, Nat.mod_lt _ (by decide)⟩ : Fin 4) = s from Fin.ext (Nat.mod_eq_of_lt s.isLt)]

/-- One exchange before the last stage. -/
theorem exchange_runs (c : Dev nD) (h : Fin 8) (s : Fin 3) (l : List (Fin 8 × Fin 4)) (hl : ∀ p ∈ l, s.val < p.2.val) :
    iprop((Flying P c h s.castSucc ∗ ToWait c h s.castSucc ∗ ToSend c h s.succ) ∗ owing P κ c (owedAt c ((h, s.succ) :: l)))
      ⊢ Runs c (exchange c h s) (fun _ => iprop((Flying P c h s.succ ∗ Done c h s.castSucc) ∗ owing P κ c (owedAt c l))) := by
  have hl' : ∀ p ∈ (h, s.succ) :: l, s.castSucc.val < p.2.val := fun p hp => by
    rcases List.mem_cons.mp hp with rfl | hp
    · exact Nat.lt_succ_self _
    · exact hl p hp
  unfold exchange Flying ToWait Done Waited
  iintro ⟨⟨⟨HA, HC⟩, ⟨Hs, Hr, HcR⟩, HT⟩, HJ⟩
  ihave H := (waitSent_runs P κ c h s.castSucc ((h, s.succ) :: l)) $$ [HC Hs HJ]
  · isplitl [HC]; · iexact HC
    isplitl [Hs] <;> iassumption
  iapply (runs_seq c _ _ _ _) $$ H
  iintro %_ ⟨HS, Hs, HJ⟩
  ihave H := (waitLanded_runs P κ c h s.castSucc ((h, s.succ) :: l) hl') $$ [HcR Hr HJ]
  · isplitl [HcR]; · iexact HcR
    isplitl [Hr] <;> iassumption
  iapply (runs_seq c _ _ _ _) $$ H
  iintro %_ ⟨HR, Hr, HJ⟩
  ihave H := (accumulate_runs c h s.castSucc _ _) $$ [HA HS HR]
  · isplitl [HA]; · iexact HA
    isplitl [HS] <;> iassumption
  iapply (runs_seq c _ _ _ _) $$ H
  iintro %_ ⟨HA, HS, HR⟩
  rw [← part_succ]
  ihave H := (start_runs P κ c h s.succ l) $$ [HS HT HJ]
  · isplitl [HS]; · iexact HS
    isplitl [HT] <;> iassumption
  iapply (runs_wand c _ _ _) $$ H
  iintro %_ ⟨HC, HJ⟩
  isplitr [HJ]
  · isplitl [HA HC]
    · isplitl [HA]; · iexact HA
      iexact HC
    isplitl [Hs Hr]
    · isplitl [Hs] <;> iassumption
    iexists _; iexact HR
  iexact HJ

/-- Loading a rectangle of a buffer held whole. -/
theorem load_rect {s : Shape} {e : EltTy} {α : Type} (c : Dev nD) (m : Memref sig .tc .vmem s e) (r : Rect s)
    {hl : m.view.LoadsAt r.toLoadRect} {k : (r.shape.Idx → Elt F e) → TProg F α} {Q : α → sProp 𝕄} (X : s.Idx → Elt F e)
    (q : PosShare TreeShare) :
    (owns (c : Thread nD τ) m q X : sProp 𝕄)
      ⊢ iprop((owns (c : Thread nD τ) m q X -∗ Runs c (k (fun j => X (r.emb j))) Q)
        -∗ Runs c (.op (.load m r.toLoadRect hl) k) Q) := by
  unfold owns
  iintro ⟨%f, %hf, H⟩ Hk
  iapply (wp_load_rect 𝒱₀ (c : Thread nD τ) none Set.univ (m := m) (r := r) (hl := hl) (k := k) (q := q) (f := f) (View.set_slice_subset _ _)) $$ H
  iintro H
  rw [show (m.access r).read (Elt F) f = fun j => X (r.emb j) by rw [← hf]; rfl]
  iapply Hk
  iexists f
  isplitr; · ipureintro; exact hf
  iexact H

/-- What flow `h` adds up to. -/
abbrev total (c : Dev nD) (h : Fin 8) : FVec F S258x128 .f32 := part P h 4 c

/-- What a flow has at the end. -/
def Ended (c : Dev nD) (h : Fin 8) : sProp 𝕄 := iprop(accAny c h ∗ sndAny c h)

/-- The last stage of a flow. -/
theorem finish_runs (c : Dev nD) (h : Fin 8) (wo : Vec F S1024x1024 .bf16) (o : FVec F S256x1024 .f32) :
    iprop((Flying P c h 3 ∗ ToWait c h 3) ∗ (owns (c : Thread nD τ) woM fullShare wo ∗ owing P κ c (owedAt c [])))
      ⊢ Runs c (finish h o) (fun b => iprop(⌜b = finVal o (total P c h) (fun j => wo ((woR h).emb j))⌝ ∗ (Ended c h ∗ Done c h 3)
          ∗ (owns (c : Thread nD τ) woM fullShare wo ∗ owing P κ c (owedAt c [])))) := by
  unfold finish Flying ToWait Done Waited Ended
  iintro ⟨⟨⟨HA, HC⟩, Hs, Hr, HcR⟩, HW, HJ⟩
  ihave H := (waitSent_runs P κ c h 3 []) $$ [HC Hs HJ]
  · isplitl [HC]; · iexact HC
    isplitl [Hs] <;> iassumption
  iapply (runs_seq c _ _ _ _) $$ H
  iintro %_ ⟨HS, Hs, HJ⟩
  ihave H := (waitLanded_runs P κ c h 3 [] (fun p hp => absurd hp List.not_mem_nil)) $$ [HcR Hr HJ]
  · isplitl [HcR]; · iexact HcR
    isplitl [Hr] <;> iassumption
  iapply (runs_seq c _ _ _ _) $$ H
  iintro %_ ⟨HR, Hr, HJ⟩
  simp only [Prog.bind_lift]
  ihave HR := (Entails.of_eq (rcvO_eq c h 3 _)) $$ HR
  iapply (load_slice c accM (flowR h) (fun _ => rfl) _ fullShare) $$ HA
  iintro HA
  iapply (load_slice c rcvM (slotR h 3) (fun _ => rfl) _ fullShare) $$ HR
  iintro HR
  rw [sumVal_eq, ← part_succ]
  iapply (load_rect c woM (woR h) wo fullShare) $$ HW
  iintro HW
  iapply runs_ret
  isplitr
  · ipureintro; rfl
  isplitl [HA HS Hs Hr HR]
  · isplitl [HA HS]
    · isplitl [HA]; · iexists (part P h (3 : Fin 4).val c); iexact HA
      iexact HS
    isplitl [Hs Hr]
    · isplitl [Hs] <;> iassumption
    iexists (sent P h (3 : Fin 4).val (peer h 3 c))
    iapply (Entails.of_eq (rcvO_eq c h 3 _).symm); iexact HR
  isplitl [HW]; · iexact HW
  iexact HJ

end Cert.KernelIdeal.Flow

end
-- ==== Proof.KernelIdeal.Run.lean ====
/- The body of one device, run once: from the inputs, room for the flows and the device's part in the protocol, to
   the output's value. -/
module

public import proofs.«01_k».proof.Proof.KernelIdeal.Steps

@[expose] public section

set_option maxRecDepth 8000

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Fin 8 → FVec F S258x128 .f32) (κ : GSem nD τ sig → ℕ)

/-! ## Lists of resources -/

/-- Two lists of resources, item by item. -/
theorem zipL {I : Type} (A B : I → sProp 𝕄) : ∀ l : List I, iprop(bigSepL l A ∗ bigSepL l B) ⊢ bigSepL l fun i => iprop(A i ∗ B i)
  | [] => by rw [bigSepL_nil, bigSepL_nil]; exact sep_elim_left
  | i :: l => by
    rw [bigSepL_cons', bigSepL_cons', bigSepL_cons']
    iintro ⟨⟨HA, HLA⟩, HB, HLB⟩
    isplitl [HA HB]
    · isplitl [HA] <;> iassumption
    iapply (zipL A B l)
    isplitl [HLA] <;> iassumption
/-- A list of pairs, apart. -/
theorem unzipL {I : Type} (A B : I → sProp 𝕄) : ∀ l : List I, bigSepL l (fun i => iprop(A i ∗ B i)) ⊢ iprop(bigSepL l A ∗ bigSepL l B)
  | [] => by
    rw [bigSepL_nil, bigSepL_nil, bigSepL_nil]
    iintro -
    isplitr <;> iempintro
  | i :: l => by
    rw [bigSepL_cons', bigSepL_cons', bigSepL_cons']
    iintro ⟨⟨HA, HB⟩, HL⟩
    ihave HL := (unzipL A B l) $$ HL
    icases HL with ⟨HLA, HLB⟩
    isplitl [HA HLA]
    · isplitl [HA] <;> iassumption
    isplitl [HB] <;> iassumption

/-- Resources of all copies, by stage. -/
theorem by_stage (Φ : Fin 8 × Fin 4 → sProp 𝕄) :
    bigSepL copies Φ = iprop((bigSepL flows fun h => Φ (h, 0)) ∗ (bigSepL flows fun h => Φ (h, 1))
      ∗ (bigSepL flows fun h => Φ (h, 2)) ∗ (bigSepL flows fun h => Φ (h, 3))) := by
  unfold copies stage
  rw [bigSepL_append, bigSepL_append, bigSepL_append, bigSepL_map, bigSepL_map, bigSepL_map, bigSepL_map]

theorem flows_nodup : flows.Nodup := by decide
theorem univ_flows : (Finset.univ : Finset (Fin 8)) = flows.toFinset := by decide
theorem copies_nodup : copies.Nodup := by decide +kernel
theorem univ_copies : (Finset.univ : Finset (Fin 8 × Fin 4)) = copies.toFinset := by decide +kernel
theorem all_copies (Φ : Fin 8 × Fin 4 → sProp 𝕄) : bigSep Finset.univ Φ = bigSepL copies Φ :=
  bigSep_univ_eq_bigSepL copies univ_copies copies_nodup Φ
theorem all_flows (Φ : Fin 8 → sProp 𝕄) : bigSep Finset.univ Φ = bigSepL flows Φ :=
  bigSep_univ_eq_bigSepL flows univ_flows flows_nodup Φ

/-- The flows after the first. -/
abbrev later : List (Fin 8) := [1, 2, 3, 4, 5, 6, 7]
theorem flows_cons (Φ : Fin 8 → sProp 𝕄) : bigSepL flows Φ = iprop(Φ 0 ∗ bigSepL later Φ) := bigSepL_cons' 0 later Φ

/-- A bit and a flow name a flow and a stage. -/
def bitFlow : Fin 4 × Fin 8 ≃ Fin 8 × Fin 4 where
  toFun x := (x.2, stageOf x.2 x.1)
  invFun p := (bit p.1 p.2, p.1)
  left_inv x := Prod.ext (bit_stageOf _ _) rfl
  right_inv p := Prod.ext rfl (stageOf_bit _ _)

/-- Resources by bit and flow are resources by flow and stage. -/
theorem by_bit (Φ : Fin 8 × Fin 4 → sProp 𝕄) :
    (bigSep Finset.univ fun b : Fin 4 => bigSepL flows fun h => Φ (h, stageOf h b)) = bigSepL copies Φ := by
  rw [← all_copies Φ, bigSep_univ_equiv bitFlow Φ, bigSep_univ_prod]
  refine bigSep_congr fun b _ => ?_
  exact (all_flows _).symm

/-- The partners' slots, by bit, are the slots a device sends to. -/
theorem slots_eq (c : Dev nD) :
    (bigSep Finset.univ fun b => barPay c b : sProp 𝕄) = bigSepL copies fun p => slotFree (peer p.1 p.2 c) p.1 p.2 := by
  rw [← by_bit]
  refine bigSep_congr fun b _ => ?_
  unfold barPay
  congr 1
  funext h
  show slotFree (partner b c) h (stageOf h b) = slotFree (partner (bit h (stageOf h b)) c) h (stageOf h b)
  rw [bit_stageOf]

/-! ## Sequences -/

theorem runAll_append {ι : Type} (f : ι → TProg F PUnit) : ∀ l l' : List ι, runAll f (l ++ l') = (runAll f l >>= fun _ => runAll f l')
  | [], l' => rfl
  | i :: l, l' => by
    show (f i >>= fun _ => runAll f (l ++ l')) = ((f i >>= fun _ => runAll f l) >>= fun _ => runAll f l')
    rw [runAll_append f l l', bind_assoc]
theorem runAll_map {ι ι' : Type} (g : ι' → ι) (f : ι → TProg F PUnit) : ∀ l : List ι', runAll f (l.map g) = runAll (fun i => f (g i)) l
  | [] => rfl
  | i :: l => by
    show (f (g i) >>= fun _ => runAll f (l.map g)) = _
    rw [runAll_map g f l]; rfl

theorem exchanges_eq : exchanges = flows.map (fun h => (h, (0 : Fin 3))) ++ (flows.map (fun h => (h, (1 : Fin 3))) ++ flows.map (fun h => (h, (2 : Fin 3)))) := by
  decide

/-! ## The parts of the body -/

/-- A flow's partial is made and sent. -/
theorem compute_start_runs (c : Dev nD) (h : Fin 8) (pv : FVec F S256x256 .f32) (hP : P c h = partial₀ pv) (l : List (Fin 8 × Fin 4)) :
    iprop(((accAny c h ∗ sndAny c h) ∗ ToSend c h 0) ∗ owing P κ c (owedAt c ((h, 0) :: l)))
      ⊢ Runs c (compute h pv >>= fun _ => start h 0 (dstOf c 0 h)) (fun _ => iprop(Flying P c h 0 ∗ owing P κ c (owedAt c l))) := by
  iintro ⟨⟨HR, HT⟩, HJ⟩
  ihave H := (compute_runs c h pv) $$ HR
  iapply (runs_seq c _ _ _ _) $$ H
  iintro %_ ⟨HA, HS⟩
  ihave H := (start_runs P κ c h 0 l) $$ [HS HT HJ]
  · isplitl [HS]
    · rw [show sent P h (0 : Fin 4).val c = truncf .bf16 (partial₀ pv) bitsLt_bf16_f32 by rw [← hP]; rfl]
      iexact HS
    isplitl [HT] <;> iassumption
  iapply (runs_wand c _ _ _) $$ H
  iintro %_ ⟨HC, HJ⟩
  isplitr [HJ]
  · unfold Flying
    isplitl [HA]
    · rw [show part P h (0 : Fin 4).val c = partial₀ pv from hP]
      iexact HA
    iexact HC
  iexact HJ

/-- All flows at one stage before the last. -/
theorem stage_runs (c : Dev nD) (s : Fin 3) (rest : List (Fin 8 × Fin 4)) (hr : ∀ p ∈ rest, s.val < p.2.val) :
    iprop((bigSepL flows fun h => iprop(Flying P c h s.castSucc ∗ ToWait c h s.castSucc ∗ ToSend c h s.succ))
        ∗ owing P κ c (owedAt c (flows.map (fun h => (h, s.succ)) ++ rest)))
      ⊢ Runs c (runAll (fun p => exchange c p.1 p.2) (flows.map fun h => (h, s)))
          (fun _ => iprop((bigSepL flows fun h => iprop(Flying P c h s.succ ∗ Done c h s.castSucc)) ∗ owing P κ c (owedAt c rest))) := by
  rw [runAll_map]
  refine runAll_runs c (fun h => exchange c h s) _ _ (fun l => owing P κ c (owedAt c (l.map (fun h => (h, s.succ)) ++ rest))) ?_ flows
  intro h l
  refine exchange_runs P κ c h s _ fun p hp => ?_
  rcases List.mem_append.mp hp with hp | hp
  · obtain ⟨h', -, rfl⟩ := List.mem_map.mp hp
    exact Nat.lt_succ_self _
  · exact hr p hp

/-- The output of a device. -/
def outVal (c : Dev nD) (wo : Vec F S1024x1024 .bf16) : FVec F S256x1024 .f32 :=
  flows.foldl (fun o h => finVal o (total P c h) (fun j => wo ((woR h).emb j))) (broadcast S256x1024 (Scalar.ofBits .f32 0x00000000#32))

/-- The last stage. -/
theorem last_runs (c : Dev nD) (wo : Vec F S1024x1024 .bf16) (o : FVec F S256x1024 .f32) :
    iprop((bigSepL flows fun h => iprop(Flying P c h 3 ∗ ToWait c h 3)) ∗ (owns (c : Thread nD τ) woM fullShare wo ∗ owing P κ c (owedAt c [])))
      ⊢ Runs c (runFold finish flows o) (fun b => iprop(⌜b = flows.foldl (fun o h => finVal o (total P c h) (fun j => wo ((woR h).emb j))) o⌝
          ∗ (bigSepL flows fun h => iprop(Ended c h ∗ Done c h 3)) ∗ (owns (c : Thread nD τ) woM fullShare wo ∗ owing P κ c (owedAt c [])))) :=
  runFold_runs c finish (fun h o => finVal o (total P c h) (fun j => wo ((woR h).emb j))) _ _ _ (fun h o => finish_runs P κ c h wo o) flows o

abbrev outR : Rect S256x1024 := Rect.unit (s := S256x1024) ![0, 0] S256x1024.size inb_S256x1024_S256x1024_0_0
theorem outR_emb (j : S256x1024.Idx) : outR.emb j = j := by
  funext a
  refine Fin.ext ?_
  match a with
  | 0 => show 0 + 1 * (j 0).val = (j 0).val; omega
  | 1 => show 0 + 1 * (j 1).val = (j 1).val; omega
abbrev sqR : Rect S1024x1024 := Rect.unit (s := S1024x1024) ![0, 0] S1024x1024.size inb_S1024x1024_S1024x1024_0_0
theorem sqR_emb (j : S1024x1024.Idx) : sqR.emb j = j := by
  funext a
  refine Fin.ext ?_
  match a with
  | 0 => show 0 + 1 * (j 0).val = (j 0).val; omega
  | 1 => show 0 + 1 * (j 1).val = (j 1).val; omega

/-- Storing all of the output. -/
theorem store_out (c : Dev nD) {α : Type} {w : Vec F S256x1024 .f32}
    {hx : (outM.access outR).Stores Finset.univ} {hm : Finset.univ = Finset.univ ∨ ∀ a, outR.stride a = 1}
    {k : PUnit → TProg F α} {Q : α → sProp 𝕄} (Z : Vec F S256x1024 .f32) :
    (owns (c : Thread nD τ) outM fullShare Z : sProp 𝕄)
      ⊢ iprop((owns (c : Thread nD τ) outM fullShare w -∗ Runs c (k ⟨⟩) Q)
        -∗ Runs c (.op (.store outM outR w Finset.univ hx hm) k) Q) := by
  unfold owns
  iintro ⟨%f, -, H⟩ Hk
  iapply (wp_store 𝒱₀ (c : Thread nD τ) none Set.univ (m := outM) (r := outR) (w := w) (Mk := Finset.univ) (hx := hx) (hm := hm) (k := k) (f := f)
    (S := outM.view.set) (by rw [View.setOn_univ]; exact View.set_slice_subset _ _)) $$ H
  iintro H
  iapply Hk
  iexists (outM.access outR).write (Elt F) f w Finset.univ
  isplitr
  · ipureintro
    funext j
    have h := congrFun (View.read_write_univ (Val := Elt F) (v := outM.access outR) f w) j
    rw [← h]
    show _ = outM.view.read (Elt F) _ (outR.emb j)
    rw [outR_emb]
  iexact H

/-! ## The body -/

/-- What a copy takes besides the slot it writes and what it sends. -/
def SendKit (c : Dev nD) (h : Fin 8) (s : Fin 4) : sProp 𝕄 :=
  iprop(dutyTok (ER (F := F)) (sndCell c h s) 0 0 ∗ reached (ER (F := F)) (sndCell c h s) 0
    ∗ dutyTok (ER (F := F)) (rcvCell (peer h s c) h s) 0 0)

/-- What a device has for its flows and for its part in the protocol, at the start. -/
def Room (c : Dev nD) : sProp 𝕄 :=
  iprop((bigSepL flows fun h => iprop(accAny c h ∗ sndAny c h))
    ∗ (bigSepL [0, 1, 2, 3] fun b => iprop(dutyTok (ER (F := F)) (barCell (partner b c)) 0 b ∗ bigSepL flows fun h => slotFree c h (stageOf h b)))
    ∗ (cred (tallyAt (barCell c) () 4) ∗ atPos (ER (F := F)) (barCell c) 0 ∅ 0)
    ∗ (bigSepL copies fun p => SendKit c p.1 p.2) ∗ (bigSepL copies fun p => ToWait c p.1 p.2))

/-- What it has at the end. -/
def Left (c : Dev nD) : sProp 𝕄 :=
  iprop((bigSepL flows fun h => Ended c h) ∗ atPos (ER (F := F)) (barCell c) 1 ∅ 0 ∗ (bigSepL copies fun p => Done c p.1 p.2))

/-- The inputs of a device. -/
def Inputs (c : Dev nD) (x : Vec F S256x1024 .bf16) (wq wo : Vec F S1024x1024 .bf16) (k v : Vec F S4096x256 .bf16) : sProp 𝕄 :=
  iprop(owns (c : Thread nD τ) xM fullShare x ∗ owns (c : Thread nD τ) wqM fullShare wq ∗ owns (c : Thread nD τ) woM fullShare wo
    ∗ owns (c : Thread nD τ) kM fullShare k ∗ owns (c : Thread nD τ) vM fullShare v)

/-- The rows of group `g` among a device's keys or values. -/
abbrev group (k : Vec F S4096x256 .bf16) (g : Fin 2) : Vec F S4096x128 .bf16 := fun j => k ((kvR g).emb j)

/-- A device's own partials. -/
def own (x : Vec F S256x1024 .bf16) (wq : Vec F S1024x1024 .bf16) (k v : Vec F S4096x256 .bf16) (h : Fin 8) : FVec F S258x128 .f32 :=
  partial₀ (pvVal h (qVal x wq) (keyVal (group k (grp h))) (valVal (group v (grp h))))

/-- A slot for every copy goes with its kit. -/
theorem toSend_all (c : Dev nD) :
    iprop((bigSepL copies fun p => SendKit (F := F) c p.1 p.2) ∗ (bigSepL copies fun p => slotFree (peer p.1 p.2 c) p.1 p.2))
      ⊢ bigSepL copies fun p => ToSend c p.1 p.2 :=
  (zipL _ _ copies).trans (bigSepL_mono fun p _ => by
    unfold SendKit ToSend
    iintro ⟨⟨H1, H2, H3⟩, H4⟩
    isplitl [H1]; · iexact H1
    isplitl [H2]; · iexact H2
    isplitl [H3]; · iexact H3
    iexact H4)

/-- What follows the loads. -/
theorem afterLoads_runs (c : Dev nD) (q : FVec F S256x1024 .bf16) (k : Fin 2 → FVec F S4096x128 .bf16) (v : Fin 2 → FVec F S4096x256 .bf16)
    (wo : Vec F S1024x1024 .bf16) (hP : ∀ h, P c h = partial₀ (pvVal h q (k (grp h)) (v (grp h)))) :
    iprop((∃ Z, owns (c : Thread nD τ) outM fullShare Z) ∗ owns (c : Thread nD τ) woM fullShare wo
        ∗ (bigSepL flows fun h => iprop(accAny c h ∗ sndAny c h))
        ∗ (cred (tallyAt (barCell c) () 4) ∗ atPos (ER (F := F)) (barCell c) 0 ∅ 0)
        ∗ (bigSepL copies fun p => SendKit c p.1 p.2) ∗ (bigSepL copies fun p => ToWait c p.1 p.2)
        ∗ owing P κ c (owedAt c copies))
      ⊢ Runs c (afterLoads c q k v) (fun _ => iprop(owns (c : Thread nD τ) outM fullShare (outVal P c wo)
          ∗ owns (c : Thread nD τ) woM fullShare wo ∗ Left c ∗ owing P κ c (owedAt c []))) := by
  unfold afterLoads
  iintro ⟨⟨%Z, HZ⟩, Hwo, HR, ⟨Hc, Ha⟩, HK, HW, HJ⟩
  ihave HR := (Entails.of_eq (flows_cons (fun h => iprop(accAny (F := F) c h ∗ sndAny c h)))) $$ HR
  icases HR with ⟨HR0, HR⟩
  ihave H := (compute_runs c 0 (pvVal 0 q (k 0) (v 0))) $$ HR0
  iapply (runs_seq c _ _ _ _) $$ H
  iintro %_ ⟨HA, HS⟩
  ihave H := (barrier_runs P κ c copies) $$ [Hc Ha HJ]
  · isplitl [Hc]; · iexact Hc
    isplitl [Ha] <;> iassumption
  iapply (runs_seq c _ _ _ _) $$ H
  iintro %_ ⟨HB, Ha, HJ⟩
  ihave HB := (Entails.of_eq (slots_eq c)) $$ HB
  ihave HT := (toSend_all c) $$ [HK HB]
  · isplitl [HK] <;> iassumption
  ihave HT := (Entails.of_eq (by_stage _)) $$ HT
  icases HT with ⟨HT0, HT1, HT2, HT3⟩
  ihave HT0 := (Entails.of_eq (flows_cons (fun h => ToSend (F := F) c h 0))) $$ HT0
  icases HT0 with ⟨HT00, HT0⟩
  ihave H := (start_runs P κ c 0 0 (later.map (fun h => (h, (0 : Fin 4))) ++ (stage 1 ++ (stage 2 ++ stage 3)))) $$ [HS HT00 HJ]
  · isplitl [HS]
    · rw [show sent P 0 (0 : Fin 4).val c = truncf .bf16 (partial₀ (pvVal 0 q (k 0) (v 0))) bitsLt_bf16_f32 by
        show truncf .bf16 (P c 0) bitsLt_bf16_f32 = _
        rw [hP]; rfl]
      iexact HS
    isplitl [HT00]; · iexact HT00
    iexact HJ
  iapply (runs_seq c _ _ _ _) $$ H
  iintro %_ ⟨HC, HJ⟩
  ihave HR := (zipL _ _ later) $$ [HR HT0]
  · isplitl [HR] <;> iassumption
  ihave H := (runAll_runs c (fun h => compute h (pvVal h q (k (grp h)) (v (grp h))) >>= fun _ => start h 0 (dstOf c 0 h))
      (fun h => iprop((accAny c h ∗ sndAny c h) ∗ ToSend c h 0)) (fun h => Flying P c h 0)
      (fun l => owing P κ c (owedAt c (l.map (fun h => (h, (0 : Fin 4))) ++ (stage 1 ++ (stage 2 ++ stage 3)))))
      (fun h l => compute_start_runs P κ c h _ (hP h) _) later) $$ [HR HJ]
  · isplitl [HR] <;> iassumption
  iapply (runs_seq c _ _ _ _) $$ H
  iintro %_ ⟨HF, HJ⟩
  ihave HF := (Entails.of_eq (flows_cons (fun h => Flying P c h 0)).symm) $$ [HA HC HF]
  · isplitl [HA HC]
    · unfold Flying
      isplitl [HA]
      · rw [show part P 0 (0 : Fin 4).val c = partial₀ (pvVal 0 q (k 0) (v 0)) from hP 0]
        iexact HA
      iexact HC
    iexact HF
  ihave HW := (Entails.of_eq (by_stage _)) $$ HW
  icases HW with ⟨HW0, HW1, HW2, HW3⟩
  rw [exchanges_eq, runAll_append, runAll_append, bind_assoc]
  ihave HX := (zipL _ _ flows) $$ [HW0 HT1]
  · isplitl [HW0] <;> iassumption
  ihave HX := (zipL _ _ flows) $$ [HF HX]
  · isplitl [HF] <;> iassumption
  ihave H := (stage_runs P κ c 0 (stage 2 ++ stage 3) (by decide)) $$ [HX HJ]
  · isplitl [HX]; · iexact HX
    iexact HJ
  iapply (runs_seq c _ _ _ _) $$ H
  iintro %_ ⟨HF, HJ⟩
  ihave HF := (unzipL _ _ flows) $$ HF
  icases HF with ⟨HF, HD0⟩
  ihave HX := (zipL _ _ flows) $$ [HW1 HT2]
  · isplitl [HW1] <;> iassumption
  ihave HX := (zipL _ _ flows) $$ [HF HX]
  · isplitl [HF] <;> iassumption
  ihave H := (stage_runs P κ c 1 (stage 3) (by decide)) $$ [HX HJ]
  · isplitl [HX]; · iexact HX
    iexact HJ
  rw [bind_assoc]
  iapply (runs_seq c _ _ _ _) $$ H
  iintro %_ ⟨HF, HJ⟩
  ihave HF := (unzipL _ _ flows) $$ HF
  icases HF with ⟨HF, HD1⟩
  ihave HX := (zipL _ _ flows) $$ [HW2 HT3]
  · isplitl [HW2] <;> iassumption
  ihave HX := (zipL _ _ flows) $$ [HF HX]
  · isplitl [HF] <;> iassumption
  ihave H := (stage_runs P κ c 2 [] (by decide)) $$ [HX HJ]
  · isplitl [HX]; · iexact HX
    iexact HJ
  iapply (runs_seq c _ _ _ _) $$ H
  iintro %_ ⟨HF, HJ⟩
  ihave HF := (unzipL _ _ flows) $$ HF
  icases HF with ⟨HF, HD2⟩
  ihave HX := (zipL _ _ flows) $$ [HF HW3]
  · isplitl [HF] <;> iassumption
  ihave H := (last_runs P κ c wo _) $$ [HX Hwo HJ]
  · isplitl [HX]; · iexact HX
    isplitl [Hwo] <;> iassumption
  iapply (runs_seq c _ _ _ _) $$ H
  iintro %o ⟨%ho, HF, Hwo, HJ⟩
  ihave HF := (unzipL _ _ flows) $$ HF
  icases HF with ⟨HE, HD3⟩
  simp only [Prog.bind_lift]
  iapply (load_rect c outM outR Z fullShare) $$ HZ
  iintro HZ
  iapply (store_out c Z) $$ HZ
  iintro HZ
  iapply runs_ret
  subst ho
  isplitl [HZ]; · iexact HZ
  isplitl [Hwo]; · iexact Hwo
  isplitr [HJ]
  · unfold Left
    isplitl [HE]; · iexact HE
    isplitl [Ha]; · iexact Ha
    iapply (Entails.of_eq (by_stage _).symm)
    isplitl [HD0]; · iexact HD0
    isplitl [HD1]; · iexact HD1
    isplitl [HD2]; · iexact HD2
    iexact HD3
  iexact HJ

/-- A device's body, from its inputs to its output. -/
theorem body_runs (c : Dev nD) (x : Vec F S256x1024 .bf16) (wq wo : Vec F S1024x1024 .bf16) (k v : Vec F S4096x256 .bf16)
    (hP : P c = own x wq k v) :
    iprop((∃ Z, owns (c : Thread nD τ) outM fullShare Z) ∗ Inputs c x wq wo k v ∗ Room c ∗ owing P κ c (O₀ c))
      ⊢ Runs c body (fun _ => iprop(owns (c : Thread nD τ) outM fullShare (outVal P c wo)
          ∗ Inputs c x wq wo k v ∗ Left c ∗ owing P κ c (owedAt c []))) := by
  unfold body Inputs Room
  simp only [Prog.bind_lift]
  iintro ⟨HZ, ⟨Hx, Hwq, Hwo, Hk, Hv⟩, ⟨HR, HS, HB, HK, HW⟩, HJ⟩
  simp only [wp_deviceId]
  ihave H := (runAll_runs c (fun b => semSignalWord (sigOf c b) barS 1#32)
      (fun b => iprop(dutyTok (ER (F := F)) (barCell (partner b c)) 0 b ∗ bigSepL flows fun h => slotFree c h (stageOf h b))) (fun _ => iprop(emp))
      (fun l => owing P κ c (owedAt c copies + owedBar c l)) (fun b l => signal_runs P κ c copies b l) [0, 1, 2, 3]) $$ [HS HJ]
  · isplitl [HS]; · iexact HS
    iexact HJ
  iapply (runs_seq c _ _ _ _) $$ H
  iintro %_ ⟨-, HJ⟩
  iapply (load_rect c xM outR x fullShare) $$ Hx
  iintro Hx
  iapply (load_rect c wqM sqR wq fullShare) $$ Hwq
  iintro Hwq
  iapply (load_rect c kM (kvR 0) k fullShare) $$ Hk
  iintro Hk
  iapply (load_rect c vM (kvR 0) v fullShare) $$ Hv
  iintro Hv
  iapply (load_rect c kM (kvR 1) k fullShare) $$ Hk
  iintro Hk
  iapply (load_rect c vM (kvR 1) v fullShare) $$ Hv
  iintro Hv
  simp only [outR_emb, sqR_emb]
  ihave H := (afterLoads_runs P κ c (qVal x wq) ![keyVal (group k 0), keyVal (group k 1)] ![valVal (group v 0), valVal (group v 1)] wo
      (fun h => by
        rw [hP]
        unfold own
        match grp h with
        | 0 => rfl
        | 1 => rfl)) $$ [HZ Hwo HR HB HK HW HJ]
  · isplitl [HZ]; · iexact HZ
    isplitl [Hwo]; · iexact Hwo
    isplitl [HR]; · iexact HR
    isplitl [HB]; · iexact HB
    isplitl [HK]; · iexact HK
    isplitl [HW]; · iexact HW
    rw [show owedAt c copies + owedBar c [] = owedAt c copies by rw [owedBar_nil, add_zero]]
    iexact HJ
  iapply (runs_wand c _ _ _) $$ H
  iintro %_ ⟨HZ, Hwo, HL, HJ⟩
  isplitl [HZ]; · iexact HZ
  isplitl [Hx Hwq Hwo Hk Hv]
  · isplitl [Hx]; · iexact Hx
    isplitl [Hwq]; · iexact Hwq
    isplitl [Hwo]; · iexact Hwo
    isplitl [Hk] <;> iassumption
  isplitl [HL] <;> iassumption

end Cert.KernelIdeal.Flow

end
-- ==== Proof.KernelIdeal.Scratch.lean ====
/- The scratch buffers of a device, taken apart by flow and by slot and put together again. -/
module

public import proofs.«01_k».proof.Proof.KernelIdeal.Run
public import Idealize.ShloMosaic.Lib.Ring

@[expose] public section

set_option maxRecDepth 8000

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Fin 8 → FVec F S258x128 .f32) (κ : GSem nD τ sig → ℕ)

/-! ## One buffer, many rectangles -/

/-- A buffer at some contents is its rectangles, each at some contents. -/
theorem parts (c : Dev nD) (b : Ref sig .tc) {T : Type} [Fintype T] [DecidableEq T] (r : T → Rect b.ty.shape)
    (hr : ∀ t a, (r t).stride a = 1)
    (hd : ∀ t t', t ≠ t' → Disjoint (r t).set (r t').set) (hcov : Finset.univ.biUnion (fun t => (r t).set) = Finset.univ) :
    iprop(∃ f, (((c : Thread nD τ).loc b) : Loc nD τ sig) ↦{fullShare} f)
      ⊢ (bigSep Finset.univ fun t => iprop(∃ X, owns (c : Thread nD τ) ((Memref.whole b).slice (r t) (hr t)) fullShare X) : sProp 𝕄) := by
  have hone : ∀ (f : b.ty.shape.Idx → Elt F b.ty.elt) (t : T),
      (owns (c : Thread nD τ) ((Memref.whole b).slice (r t) (hr t)) fullShare (fun j => f ((r t).emb j)) : sProp 𝕄)
        ⊢ iprop(∃ X, owns (c : Thread nD τ) ((Memref.whole b).slice (r t) (hr t)) fullShare X) := fun f t => by
    iintro H; iexists _; iexact H
  have hall : ∀ f : b.ty.shape.Idx → Elt F b.ty.elt,
      (bigSep Finset.univ fun t => owns (c : Thread nD τ) ((Memref.whole b).slice (r t) (hr t)) fullShare (fun j => f ((r t).emb j)) : sProp 𝕄)
        ⊢ bigSep Finset.univ fun t => iprop(∃ X, owns (c : Thread nD τ) ((Memref.whole b).slice (r t) (hr t)) fullShare X) :=
    fun f => bigSep_mono fun t _ => hone f t
  iintro ⟨%f, H⟩
  ihave H := (Entails.of_eq (owns_whole (c : Thread nD τ) b fullShare f).symm) $$ H
  ihave H := (owns_rects (c : Thread nD τ) (Memref.whole b) fullShare r hr hd hcov f) $$ H
  ihave H := hall f $$ H
  iexact H

/-- And back. -/
theorem whole_again (c : Dev nD) (b : Ref sig .tc) {T : Type} [Fintype T] [DecidableEq T] (r : T → Rect b.ty.shape)
    (hr : ∀ t a, (r t).stride a = 1)
    (hd : ∀ t t', t ≠ t' → Disjoint (r t).set (r t').set) (hcov : Finset.univ.biUnion (fun t => (r t).set) = Finset.univ)
    (f₀ : Buf (Elt F) ((c : Thread nD τ).loc b)) :
    (bigSep Finset.univ fun t => iprop(∃ X, owns (c : Thread nD τ) ((Memref.whole b).slice (r t) (hr t)) fullShare X) : sProp 𝕄)
      ⊢ iprop(∃ f, (((c : Thread nD τ).loc b) : Loc nD τ sig) ↦{fullShare} f) := by
  have hset : ∀ t, ((Memref.whole b).slice (r t) (hr t)).view.set = (r t).set := fun t => View.set_slice_whole b (r t)
  have hone : ∀ t, (iprop(∃ X, owns (c : Thread nD τ) ((Memref.whole b).slice (r t) (hr t)) fullShare X) : sProp 𝕄)
      ⊢ iprop(∃ f, (((c : Thread nD τ).loc b) : Loc nD τ sig) ↦[(r t).set]{fullShare} f) := fun t => by
    unfold owns
    rw [hset t]
    iintro ⟨%X, %f, -, H⟩
    iexists f
    iexact H
  have hall : (bigSep Finset.univ fun t => iprop(∃ X, owns (c : Thread nD τ) ((Memref.whole b).slice (r t) (hr t)) fullShare X) : sProp 𝕄)
      ⊢ bigSep Finset.univ fun t => iprop(∃ f, (((c : Thread nD τ).loc b) : Loc nD τ sig) ↦[(r t).set]{fullShare} f) :=
    bigSep_mono fun t _ => hone t
  exact hall.trans (Ring.pointsTo_blocks_join_exists (ℓ := (c : Thread nD τ).loc b) (q := fullShare) (fun t => (r t).set) hd hcov f₀)

/-! ## The three buffers -/

/-- A rectangle's place along an axis, by flow. -/
theorem flowR_disjoint (h h' : Fin 8) (hne : h ≠ h') : Disjoint (flowR h).set (flowR h').set :=
  Rect.unit_disjoint (0 : Fin 3) (by
    have : h.val ≠ h'.val := fun e => hne (Fin.ext e)
    show h.val + 1 ≤ h'.val ∨ h'.val + 1 ≤ h.val
    omega)
theorem flowR_cover : Finset.univ.biUnion (fun h => (flowR h).set) = Finset.univ := by
  refine Finset.eq_univ_of_forall fun i => Finset.mem_biUnion.mpr ⟨i 0, Finset.mem_univ _, ?_⟩
  refine Rect.mem_set_unit.mpr fun a => ?_
  fin_cases a
  · exact ⟨le_refl _, Nat.lt_succ_self _⟩
  · exact ⟨Nat.zero_le _, by simpa using (i 1).isLt⟩
  · exact ⟨Nat.zero_le _, by simpa using (i 2).isLt⟩

theorem slotR_disjoint (p p' : Fin 8 × Fin 4) (hne : p ≠ p') : Disjoint (slotR p.1 p.2).set (slotR p'.1 p'.2).set := by
  by_cases h1 : p.1 = p'.1
  · refine Rect.unit_disjoint (1 : Fin 4) ?_
    have : p.2.val ≠ p'.2.val := fun e => hne (Prod.ext h1 (Fin.ext e))
    show p.2.val + 1 ≤ p'.2.val ∨ p'.2.val + 1 ≤ p.2.val
    omega
  · refine Rect.unit_disjoint (0 : Fin 4) ?_
    have : p.1.val ≠ p'.1.val := fun e => h1 (Fin.ext e)
    show p.1.val + 1 ≤ p'.1.val ∨ p'.1.val + 1 ≤ p.1.val
    omega
theorem slotR_cover : Finset.univ.biUnion (fun p : Fin 8 × Fin 4 => (slotR p.1 p.2).set) = Finset.univ := by
  refine Finset.eq_univ_of_forall fun i => Finset.mem_biUnion.mpr ⟨(i 0, i 1), Finset.mem_univ _, ?_⟩
  refine Rect.mem_set_unit.mpr fun a => ?_
  fin_cases a
  · exact ⟨le_refl _, Nat.lt_succ_self _⟩
  · exact ⟨le_refl _, Nat.lt_succ_self _⟩
  · exact ⟨Nat.zero_le _, by simpa using (i 2).isLt⟩
  · exact ⟨Nat.zero_le _, by simpa using (i 3).isLt⟩

/-- A slot of the receive buffer, and of the others, at some contents. -/
abbrev rcvAny (c : Dev nD) (p : Fin 8 × Fin 4) : sProp 𝕄 := iprop(∃ X, rcvO c p.1 p.2 X)

theorem accAny_eq (c : Dev nD) (h : Fin 8) :
    accAny c h = (iprop(∃ X, owns (c : Thread nD τ) (accM.slice (flowR h) (fun _ => rfl)) fullShare X) : sProp 𝕄) := by
  have there : (accAny c h : sProp 𝕄) ⊢ iprop(∃ X, owns (c : Thread nD τ) (accM.slice (flowR h) (fun _ => rfl)) fullShare X) := by
    iintro ⟨%X, H⟩; iexists _; iexact H
  have back : (iprop(∃ X, owns (c : Thread nD τ) (accM.slice (flowR h) (fun _ => rfl)) fullShare X) : sProp 𝕄) ⊢ accAny c h := by
    iintro ⟨%X, H⟩
    iexists (shapeCast S258x128 X shapeCasts_S258x128_S1x258x128.symm)
    unfold accO
    rw [shapeCast_shapeCast]
    iexact H
  exact BI.equiv_iff.mp ⟨there, back⟩
theorem sndAny_eq (c : Dev nD) (h : Fin 8) :
    sndAny c h = (iprop(∃ X, owns (c : Thread nD τ) (sndM.slice (flowR h) (fun _ => rfl)) fullShare X) : sProp 𝕄) := by
  have there : (sndAny c h : sProp 𝕄) ⊢ iprop(∃ X, owns (c : Thread nD τ) (sndM.slice (flowR h) (fun _ => rfl)) fullShare X) := by
    iintro ⟨%X, H⟩
    ihave H := (Entails.of_eq (sndO_eq c h X)) $$ H
    iexists _; iexact H
  have back : (iprop(∃ X, owns (c : Thread nD τ) (sndM.slice (flowR h) (fun _ => rfl)) fullShare X) : sProp 𝕄) ⊢ sndAny c h := by
    iintro ⟨%X, H⟩
    iexists (shapeCast S258x128 X shapeCasts_S258x128_S1x258x128.symm)
    iapply (Entails.of_eq (sndO_eq c h _).symm)
    rw [shapeCast_shapeCast]
    iexact H
  exact BI.equiv_iff.mp ⟨there, back⟩
theorem rcvAny_eq (c : Dev nD) (p : Fin 8 × Fin 4) :
    rcvAny c p = (iprop(∃ X, owns (c : Thread nD τ) (rcvM.slice (slotR p.1 p.2) (fun _ => rfl)) fullShare X) : sProp 𝕄) := by
  have there : (rcvAny c p : sProp 𝕄) ⊢ iprop(∃ X, owns (c : Thread nD τ) (rcvM.slice (slotR p.1 p.2) (fun _ => rfl)) fullShare X) := by
    iintro ⟨%X, H⟩
    ihave H := (Entails.of_eq (rcvO_eq c p.1 p.2 X)) $$ H
    iexists _; iexact H
  have back : (iprop(∃ X, owns (c : Thread nD τ) (rcvM.slice (slotR p.1 p.2) (fun _ => rfl)) fullShare X) : sProp 𝕄) ⊢ rcvAny c p := by
    iintro ⟨%X, H⟩
    iexists (shapeCast S258x128 X shapeCasts_S1x1x258x128_S258x128)
    iapply (Entails.of_eq (rcvO_eq c p.1 p.2 _).symm)
    rw [shapeCast_shapeCast]
    iexact H
  exact BI.equiv_iff.mp ⟨there, back⟩

/-- The three scratch buffers whole, at some contents. -/
def Buffers (c : Dev nD) : sProp 𝕄 :=
  iprop((∃ f, (((c : Thread nD τ).loc cc0_scratch0) : Loc nD τ sig) ↦{fullShare} f)
    ∗ (∃ f, (((c : Thread nD τ).loc cc0_scratch1) : Loc nD τ sig) ↦{fullShare} f)
    ∗ (∃ f, (((c : Thread nD τ).loc cc0_scratch2) : Loc nD τ sig) ↦{fullShare} f))

/-- The buffers are their rows by flow and slots by copy. -/
theorem buffers_apart (c : Dev nD) :
    Buffers c ⊢ (iprop((bigSepL flows fun h => iprop(accAny c h ∗ sndAny c h)) ∗ (bigSepL copies fun p => rcvAny c p)) : sProp 𝕄) := by
  unfold Buffers
  rw [← all_flows, ← all_copies, bigSep_sep', bigSep_congr (fun h _ => accAny_eq c h), bigSep_congr (fun h _ => sndAny_eq c h),
    bigSep_congr (fun p _ => rcvAny_eq c p)]
  iintro ⟨HA, HS, HR⟩
  ihave HA := (parts c cc0_scratch0 flowR (fun _ _ => rfl) flowR_disjoint flowR_cover) $$ HA
  ihave HS := (parts c cc0_scratch1 flowR (fun _ _ => rfl) flowR_disjoint flowR_cover) $$ HS
  ihave HR := (parts c cc0_scratch2 (fun p : Fin 8 × Fin 4 => slotR p.1 p.2) (fun _ _ => rfl) slotR_disjoint slotR_cover) $$ HR
  isplitl [HA HS]
  · isplitl [HA]
    · iexact HA
    · iexact HS
  · iexact HR

/-- And the rows and slots are the buffers. -/
theorem buffers_again (c : Dev nD) :
    (iprop((bigSepL flows fun h => iprop(accAny c h ∗ sndAny c h)) ∗ (bigSepL copies fun p => rcvAny c p)) : sProp 𝕄) ⊢ Buffers c := by
  unfold Buffers
  rw [← all_flows, ← all_copies, bigSep_sep', bigSep_congr (fun h _ => accAny_eq c h), bigSep_congr (fun h _ => sndAny_eq c h),
    bigSep_congr (fun p _ => rcvAny_eq c p)]
  iintro ⟨⟨HA, HS⟩, HR⟩
  isplitl [HA]
  · iapply (whole_again c cc0_scratch0 flowR (fun _ _ => rfl) flowR_disjoint flowR_cover (fun _ => default))
    iexact HA
  isplitl [HS]
  · iapply (whole_again c cc0_scratch1 flowR (fun _ _ => rfl) flowR_disjoint flowR_cover (fun _ => default))
    iexact HS
  · iapply (whole_again c cc0_scratch2 (fun p : Fin 8 × Fin 4 => slotR p.1 p.2) (fun _ _ => rfl) slotR_disjoint slotR_cover (fun _ => default))
    iexact HR

end Cert.KernelIdeal.Flow

end
-- ==== Proof.KernelIdeal.Device.lean ====
/- A device's run from its dormant cells to its closed cells. -/
module

public import proofs.«01_k».proof.Proof.KernelIdeal.Scratch
public import Idealize.ShloMosaic.Lib.Rounds.Family

@[expose] public section

set_option maxRecDepth 8000

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Fin 8 → FVec F S258x128 .f32) (κ : GSem nD τ sig → ℕ)

/-- A copy's cell on a device. -/
abbrev copyCell (c : Dev nD) (x : Bool × Fin 8 × Fin 4) : GSem nD τ sig := ((c : Thread nD τ), copySem x)

/-- The tokens of the duties a device will serve. -/
def Toks (c : Dev nD) : sProp 𝕄 :=
  iprop((bigSep Finset.univ fun b : Fin 4 => dutyTok (ER (F := F)) (barCell (partner b c)) 0 b)
    ∗ (bigSepL copies fun p => dutyTok (ER (F := F)) (sndCell c p.1 p.2) 0 0)
    ∗ (bigSepL copies fun p => dutyTok (ER (F := F)) (rcvCell (peer p.1 p.2 c) p.1 p.2) 0 0))

/-- What a device may wait for. -/
def Creds (c : Dev nD) : sProp 𝕄 :=
  iprop(cred (tallyAt (barCell c) () 4) ∗ (bigSepL copies fun p => cred (tallyAt (rcvCell c p.1 p.2) () N)))

/-- A device before its kernel's region: its copies' cells not yet open. -/
def Before (c : Dev nD) : sProp 𝕄 :=
  iprop(∃ κ, shared P κ ∗ atPos (ER (F := F)) (barCell c) 0 ∅ 0
    ∗ (bigSep Finset.univ fun x => openTok (ER (F := F)) (copyCell c x)) ∗ Toks c ∗ Creds c)

/-- A device's rights once its cells are open. -/
def Rights (c : Dev nD) : sProp 𝕄 :=
  iprop(atPos (ER (F := F)) (barCell c) 0 ∅ 0
    ∗ (bigSep Finset.univ fun x => iprop(atPos (ER (F := F)) (copyCell c x) 0 ∅ 0 ∗ reached (ER (F := F)) (copyCell c x) 0)) ∗ Toks c ∗ Creds c)

/-- A device in its kernel's region: its copies' cells open. -/
def Ready (c : Dev nD) : sProp 𝕄 := iprop(∃ κ, shared P κ ∗ Rights c)

/-- The counters of a device's copies, at zero. -/
def Zeros (c : Dev nD) : sProp 𝕄 := bigSep Finset.univ fun x => semVal (copyCell c x) 0

/-- The cells open. -/
theorem opens (c : Dev nD) : iprop(Before P c ∗ Zeros (F := F) c) ⊢ iprop(|={Set.univ}=> Ready P c) := by
  unfold Before Zeros Ready Rights
  iintro ⟨⟨%κ, #HS, HB, HT, HK, HC⟩, HZ⟩
  have hone : ∀ x ∈ (Finset.univ : Finset (Bool × Fin 8 × Fin 4)), iprop(shared P κ ∗ openTok (ER (F := F)) (copyCell c x))
      ⊢ (iprop(cellInv ER (exch P) (κ (copyCell c x)) (copyCell c x) ∗ openTok (ER (F := F)) (copyCell c x)) : sProp 𝕄) := fun x _ =>
    sep_mono_left (shared_inv P κ (copy_mem c x))
  ihave HT := (bigSep_with_persistent (R := shared P κ) hone) $$ [HT]
  · isplitr; · iexact HS
    iexact HT
  imod (cells_open ER (exch P) Finset.univ (fun x => copyCell c x) (fun x => κ (copyCell c x)) (fun _ _ => Set.mem_univ _)) $$ [HT HZ] with HA
  · isplitl [HT]; · iexact HT
    iexact HZ
  imodintro
  iexists κ
  isplitr; · iexact HS
  isplitl [HB]; · iexact HB
  isplitl [HA]; · iexact HA
  isplitl [HK] <;> iassumption

/-- Resources of all a device's copies' cells, those sent through and those received through. -/
theorem all_cells (Φ : Bool × Fin 8 × Fin 4 → sProp 𝕄) :
    bigSep Finset.univ Φ = iprop((bigSepL copies fun p => Φ (false, p)) ∗ (bigSepL copies fun p => Φ (true, p))) := by
  rw [bigSep_univ_prod, show (Finset.univ : Finset Bool) = {false, true} by decide, bigSep_insert (by decide), bigSep_singleton,
    all_copies, all_copies]
  rfl

theorem bits_nodup : ([0, 1, 2, 3] : List (Fin 4)).Nodup := by decide
theorem univ_bits : (Finset.univ : Finset (Fin 4)) = ([0, 1, 2, 3] : List (Fin 4)).toFinset := by decide

/-- A device's buffers and rights are the room its run needs. -/
theorem room (c : Dev nD) : (iprop(Buffers c ∗ Rights c) : sProp 𝕄) ⊢ Room c := by
  unfold Rights Toks Creds Room SendKit ToWait slotFree
  rw [← bigSep_univ_eq_bigSepL _ univ_bits bits_nodup, bigSep_sep', bigSep_sep',
    by_bit (fun p => iprop((∃ X, rcvO c p.1 p.2 X) ∗ reached ER (rcvCell c p.1 p.2) 0)), all_cells, all_cells]
  iintro ⟨HBuf, HB, ⟨⟨HPs, HPr⟩, HRs, HRr⟩, ⟨HTb, HTs, HTr⟩, HCb, HCr⟩
  ihave HBuf := (buffers_apart c) $$ HBuf
  icases HBuf with ⟨HAS, HR⟩
  isplitl [HAS]; · iexact HAS
  isplitl [HTb HR HRr]
  · isplitl [HTb]; · iexact HTb
    iapply (zipL _ _ copies)
    isplitl [HR]; · iexact HR
    iexact HRr
  isplitl [HCb HB]
  · isplitl [HCb] <;> iassumption
  isplitl [HTs HTr HRs]
  · iapply (zipL _ _ copies)
    isplitl [HTs]; · iexact HTs
    iapply (zipL _ _ copies)
    isplitl [HRs]; · iexact HRs
    iexact HTr
  · iapply (zipL _ _ copies)
    isplitl [HPs]; · iexact HPs
    iapply (zipL _ _ copies)
    isplitl [HPr]; · iexact HPr
    iexact HCr

/-- What a run leaves: the buffers, and every counter at zero. -/
def After (c : Dev nD) : sProp 𝕄 := iprop(Buffers c ∗ Zeros (F := F) c ∗ semVal (barCell c) 0)

/-- The cells close. -/
theorem closes (c : Dev nD) : iprop(shared P κ ∗ Left (F := F) c) ⊢ iprop(|={Set.univ}=> After c) := by
  unfold Left Done Waited After Zeros
  iintro ⟨#HS, HE, HB, HD⟩
  ihave HD := (unzipL _ _ copies) $$ HD
  icases HD with ⟨HW, HR⟩
  ihave HW := (unzipL _ _ copies) $$ HW
  have hone : ∀ x ∈ (Finset.univ : Finset (Bool × Fin 8 × Fin 4)), iprop(shared P κ ∗ atPos (ER (F := F)) (copyCell c x) 1 ∅ 0)
      ⊢ (iprop(cellInv ER (exch P) (κ (copyCell c x)) (copyCell c x) ∗ atPos (ER (F := F)) (copyCell c x) 1 ∅ 0) : sProp 𝕄) := fun x _ =>
    sep_mono_left (shared_inv P κ (copy_mem c x))
  ihave HA := (bigSep_with_persistent (R := shared P κ) hone) $$ [HW]
  · isplitr; · iexact HS
    rw [all_cells]
    iexact HW
  imod (cells_close ER (exch P) Finset.univ (fun x => copyCell c x) (fun x => κ (copyCell c x)) (fun _ _ => Set.mem_univ _)
    (fun _ _ h => h) (fun _ => 1) (fun x _ => duties_later P (copyCell c x))) $$ HA with HZ
  ihave #HI := (shared_inv P κ (bar_mem c)) $$ HS
  imod (Rounds.cell_close ER (exch P) (Set.mem_univ (κ (barCell c))) (fun h => h) (R := 1) (duties_later P (barCell c))) $$ [HB] with HZB
  · isplitr; · iexact HI
    iexact HB
  imodintro
  isplitl [HE HR]
  · iapply (buffers_again c)
    isplitl [HE]; · iexact HE
    iexact HR
  isplitl [HZ]; · iexact HZ
  iexact HZB

/-- **The kernel body on a device**: from its buffers and its open cells, it leaves its result, its buffers, and every counter at zero. -/
theorem device_runs (c : Dev nD) (x : Vec F S256x1024 .bf16) (wq wo : Vec F S1024x1024 .bf16) (k v : Vec F S4096x256 .bf16)
    (hP : P c = own x wq k v) :
    iprop((∃ Z, owns (c : Thread nD τ) outM fullShare Z) ∗ Inputs c x wq wo k v ∗ Buffers c ∗ Ready P c ∗ ∃ W, owes c (O₀ c) W)
      ⊢ Runs c body (fun _ => iprop(owns (c : Thread nD τ) outM fullShare (outVal P c wo) ∗ Inputs c x wq wo k v ∗ After c ∗ ∃ W, owes c 0 W)) := by
  unfold Ready
  iintro ⟨HZ, HI, HBuf, ⟨%κ, #HS, HR⟩, HO⟩
  ihave HRoom := (room c) $$ [HBuf HR]
  · isplitl [HBuf] <;> iassumption
  iapply (wp_fupd frame (wpE defs₀ 𝒱₀ c none) Set.univ body _)
  ihave HRun := (body_runs P κ c x wq wo k v hP) $$ [HZ HI HRoom HO]
  · isplitl [HZ]; · iexact HZ
    isplitl [HI]; · iexact HI
    isplitl [HRoom]; · iexact HRoom
    unfold owing
    isplitr; · iexact HS
    iexact HO
  iapply (runs_wand c body _ _) $$ HRun
  iintro %_ ⟨HZ, HI, HL, HO⟩
  imod (closes P κ c) $$ [HL] with HA
  · isplitr; · iexact HS
    iexact HL
  imodintro
  isplitl [HZ]; · iexact HZ
  isplitl [HI]; · iexact HI
  isplitl [HA]; · iexact HA
  rw [owedAt_nil]
  unfold owing
  icases HO with ⟨-, HO⟩
  iexact HO

end Cert.KernelIdeal.Flow

end
-- ==== Proof.KernelIdeal.BodyEq.lean ====
/- The printed kernel body is the body by flow and stage. -/
module

public import proofs.«01_k».proof.Proof.KernelIdeal.Program

@[expose] public section

noncomputable section

namespace Cert.KernelIdeal.Flow

open Idealize.ShloMosaic Idealize.ShloMosaic.TcCoe Idealize.SL.Sem Cert.KernelIdeal Cert.KernelIdeal.Gen

variable {F : FTy → Type} [FloatOps F] [Named F]

set_option maxRecDepth 200000 in
set_option maxHeartbeats 0 in
/-- The printed body is that. -/
theorem body_eq : bodyAt0 (F := F) t0_0 = body := rfl

end Cert.KernelIdeal.Flow

end
-- ==== Proof.KernelIdeal.Region.lean ====
/- The kernel's region: its pipeline's data, its body's obligation, and what it is entered from and left with. -/
module

public import proofs.«01_k».proof.Proof.KernelIdeal.Device
public import proofs.«01_k».proof.Proof.KernelIdeal.BodyEq
public import proofs.«01_k».proof.Proof.Gen.KernelIdeal.Frame
public import Idealize.ShloMosaic.Lib.Pipeline.RegionTalk
public import Idealize.ShloMosaic.Lib.Pipeline.RegionArraysS

@[expose] public section

set_option maxRecDepth 16384

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- Every device's own partials, of the blocks its windows fetch. -/
def parts₀ (c : Dev nD) : Fin 8 → FVec F S258x128 .f32 :=
  own (iblk m c 0 t0_0) (iblk m c 1 t0_0) (iblk m c 3 t0_0) (iblk m c 4 t0_0)

/-- What a device's run leaves in its result window. -/
def result (c : Dev nD) : Vec F S256x1024 .f32 := outVal (parts₀ m) c (iblk m c 2 t0_0)

/-- The pipeline's data on a device: what the windows hold, what the body keeps between points, and what it owes. -/
def dat (c : Dev nD) : Dat τ (Elt F) Unit ℕ UU ℕ cfg0 c where
  A w := V m c (Pipeline.arrRef spec0 w)
  after w t := match w with
    | 0 => iblk m c 0 t | 1 => iblk m c 1 t | 2 => iblk m c 2 t | 3 => iblk m c 3 t | 4 => iblk m c 4 t
    | 5 => result m c
    | ⟨_ + 6, h⟩ => absurd h (Nat.not_lt.2 (Nat.le_add_left _ _))
  Φ t := if t.val = 0 then iprop(Buffers c ∗ (∃ r, prngReg c r) ∗ Ready (parts₀ m) c) else iprop(After c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

theorem found0 (c : Dev nD) (t : Fin cfg0.N) (d) : (dat m c).before 0 t d = iblk m c 0 t :=
  ((dat m c).before_in_eq_fetched 0 rfl (fun _ => rfl) (fun _ _ _ => rfl) (fun _ => rfl) t d).trans rfl
theorem found1 (c : Dev nD) (t : Fin cfg0.N) (d) : (dat m c).before 1 t d = iblk m c 1 t :=
  ((dat m c).before_in_eq_fetched 1 rfl (fun _ => rfl) (fun _ _ _ => rfl) (fun _ => rfl) t d).trans rfl
theorem found2 (c : Dev nD) (t : Fin cfg0.N) (d) : (dat m c).before 2 t d = iblk m c 2 t :=
  ((dat m c).before_in_eq_fetched 2 rfl (fun _ => rfl) (fun _ _ _ => rfl) (fun _ => rfl) t d).trans rfl
theorem found3 (c : Dev nD) (t : Fin cfg0.N) (d) : (dat m c).before 3 t d = iblk m c 3 t :=
  ((dat m c).before_in_eq_fetched 3 rfl (fun _ => rfl) (fun _ _ _ => rfl) (fun _ => rfl) t d).trans rfl
theorem found4 (c : Dev nD) (t : Fin cfg0.N) (d) : (dat m c).before 4 t d = iblk m c 4 t :=
  ((dat m c).before_in_eq_fetched 4 rfl (fun _ => rfl) (fun _ _ _ => rfl) (fun _ => rfl) t d).trans rfl

theorem owed_first (c : Dev nD) : (dat (F := F) m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]
theorem kept_zero (c : Dev nD) : (dat (F := F) m c).Φ t0_0.castSucc = iprop(Buffers c ∗ (∃ r, prngReg c r) ∗ Ready (parts₀ m) c) := rfl
theorem kept_one (c : Dev nD) : (dat (F := F) m c).Φ t0_0.succ = iprop(After c ∗ ∃ r, prngReg c r) := rfl

theorem owesAt_of (c : Dev nD) (t : Fin (cfg0.N + 1)) (O : CellTallies nD τ sig Unit) (h0 : (dat m c).owed t = O) :
    (iprop(∃ W, owes (c : Thread nD τ) O W) : sProp 𝕄) ⊢ (dat m c).owesAt () t := by
  unfold Dat.owesAt Pipeline.owesWithin Dat.bound; rw [h0]
  iintro ⟨%W, HO⟩; iexists W; isplitr; · ipureintro; exact fun _ _ => Or.inl trivial
  iexact HO
theorem of_owesAt (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- What the region's one point finds in its windows. -/
def finds (c : Dev nD) : sProp 𝕄 :=
  iprop((∃ d, owns (c : Thread nD τ) xM fullShare ((dat m c).before 0 t0_0 d)) ∗ (∃ d, owns (c : Thread nD τ) wqM fullShare ((dat m c).before 1 t0_0 d))
    ∗ (∃ d, owns (c : Thread nD τ) woM fullShare ((dat m c).before 2 t0_0 d)) ∗ (∃ d, owns (c : Thread nD τ) kM fullShare ((dat m c).before 3 t0_0 d))
    ∗ (∃ d, owns (c : Thread nD τ) vM fullShare ((dat m c).before 4 t0_0 d)) ∗ (∃ d, owns (c : Thread nD τ) outM fullShare ((dat m c).before 5 t0_0 d)))
/-- And leaves. -/
def leaves (c : Dev nD) : sProp 𝕄 :=
  iprop(owns (c : Thread nD τ) xM fullShare (iblk m c 0 t0_0) ∗ owns (c : Thread nD τ) wqM fullShare (iblk m c 1 t0_0)
    ∗ owns (c : Thread nD τ) woM fullShare (iblk m c 2 t0_0) ∗ owns (c : Thread nD τ) kM fullShare (iblk m c 3 t0_0)
    ∗ owns (c : Thread nD τ) vM fullShare (iblk m c 4 t0_0) ∗ owns (c : Thread nD τ) outM fullShare (result m c))

/-- The body at the region's one point. -/
theorem point_runs (c : Dev nD) :
    iprop((dat m c).Φ t0_0.castSucc ∗ (dat m c).owesAt () t0_0.castSucc ∗ finds m c)
      ⊢ Runs c (bodyAt0 t0_0) (fun _ => iprop((dat m c).Φ t0_0.succ ∗ (dat m c).owesAt () t0_0.succ ∗ leaves m c)) := by
  rw [body_eq, kept_zero, kept_one]
  unfold finds leaves
  iintro ⟨⟨HBuf, HP, HR⟩, HO, ⟨%d0, Hx⟩, ⟨%d1, Hwq⟩, ⟨%d2, Hwo⟩, ⟨%d3, Hk⟩, ⟨%d4, Hv⟩, ⟨%d5, Hz⟩⟩
  rw [found0, found1, found2, found3, found4]
  ihave HO := (of_owesAt m c _ (O₀ c) (owed_first m c)) $$ HO
  ihave H := (device_runs (parts₀ m) c (iblk m c 0 t0_0) (iblk m c 1 t0_0) (iblk m c 2 t0_0) (iblk m c 3 t0_0) (iblk m c 4 t0_0) rfl)
    $$ [HBuf HR HO Hx Hwq Hwo Hk Hv Hz]
  · isplitl [Hz]; · iexists _; iexact Hz
    isplitl [Hx Hwq Hwo Hk Hv]
    · unfold Inputs
      isplitl [Hx]; · iexact Hx
      isplitl [Hwq]; · iexact Hwq
      isplitl [Hwo]; · iexact Hwo
      isplitl [Hk] <;> iassumption
    isplitl [HBuf]; · iexact HBuf
    isplitl [HR]; · iexact HR
    iexact HO
  iapply (runs_wand c _ _ _) $$ H
  unfold Inputs
  iintro %_ ⟨Hz, ⟨Hx, Hwq, Hwo, Hk, Hv⟩, HA, HO⟩
  isplitl [HA HP]
  · isplitl [HA]; · iexact HA
    iexact HP
  isplitl [HO]
  · iapply (owesAt_of m c t0_0.succ 0 (owed_last m c)); iexact HO
  isplitl [Hx]; · iexact Hx
  isplitl [Hwq]; · iexact Hwq
  isplitl [Hwo]; · iexact Hwo
  isplitl [Hk]; · iexact Hk
  isplitl [Hv]; · iexact Hv
  iexact Hz

/-- The body obligation of the region. -/
theorem obligation (c : Dev nD) : BodyObligation (dat (F := F) m c) defs₀ 𝒱₀ () Set.univ := fun t => by
  obtain rfl := fin_N0 t
  rw [bigSep_W0, bigSep_W0]
  exact point_runs m c

/-! ## The region -/

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rw [show O₀ c g i = owedAt c copies g i + owedBar c [0, 1, 2, 3] g i from rfl] at h
    rcases Nat.eq_zero_or_pos (owedAt c copies g i) with h0 | hpos
    · rw [h0, Nat.zero_add] at h
      simp only [owedBar_cons, owedBar_nil, zero_add] at h
      have hb : ∃ b, g = barCell (partner b c) := by
        by_contra hn
        have hn := not_exists.mp hn
        simp only [Pi.add_apply, Finsupp.add_apply] at h
        rw [tallyAt_ne_cell (hn 3), tallyAt_ne_cell (hn 2), tallyAt_ne_cell (hn 1), tallyAt_ne_cell (hn 0)] at h
        exact absurd h (Nat.lt_irrefl 0)
      obtain ⟨b, rfl⟩ := hb
      exact ⟨by rw [L_tc]; exact Finset.mem_singleton_self _, Nat.one_pos⟩
    · obtain ⟨p, -, rfl⟩ := owedAt_pos c _ g i hpos
      refine ⟨by rw [L_tc]; exact Finset.mem_singleton_self _, ?_⟩
      show 0 < level (.dma (rcvS p.1 p.2))
      rw [level_rcv]; omega
  · exact absurd h (Nat.lt_irrefl 0)

/-- The staging cells are below every cell a device owes at. -/
theorem staged (w : Fin 6) (s : Fin (win0 w).nbuf) : level (.dma ((win0 w).sem s)) ≤ 0 := by
  revert s; revert w; decide

theorem levels : Pipeline.LevelCutOwed (pcfgs (F := F)) adm (pdats m) () L lv 0 (fun _ => 0) :=
  ⟨fun c w s => by rw [L_tc]; exact Finset.mem_singleton_self _, fun c w s => staged w s, fun c t g i h => cut m c t g i h⟩

theorem ownSems : Pipeline.OwnSemFacts spec0 copySem := by decide

/-- What is held beside the windows' arrays. -/
abbrev rest₀ : Finset (DevRef τ sig) := Pipeline.ucRefs τ sig \ Pipeline.arrRefs spec0

/-- The device's buffers after the region. -/
abbrev V1 (c : Dev nD) : Valuation τ sig (Elt F) := Pipeline.afterRegion (dat m c) (V0 m c)

theorem zeros_eq (c : Dev nD) : (Pipeline.ownSems0 copySem c : sProp 𝕄) = Zeros c := rfl

theorem enters (c : Dev nD) : iprop(Before (parts₀ m) c ∗ Pipeline.ownSems0 copySem c ∗ levAts L lv) ⊢ (iprop(|={Set.univ}=> Ready (parts₀ m) c) : sProp 𝕄) := by
  iintro ⟨HB, HZ, -⟩
  iapply (opens (parts₀ m) c)
  isplitl [HB]; · iexact HB
  iapply (Entails.of_eq (zeros_eq c)); iexact HZ

theorem held_none (c : Dev nD) (W : Valuation τ sig (Elt F)) : (StableHlo.held (c.tc : Thread nD τ) ∅ W : sProp 𝕄) = BI.emp :=
  BI.bigSep_empty

theorem fills (c : Dev nD) :
    (iprop(Pipeline.scopedRest (Pipeline.pin (pcfgs (F := F)) adm 0).spec c ∗ (∃ r, prngReg c r)
        ∗ StableHlo.held (c.tc : Thread nD τ) ∅ (V0 m c) ∗ Ready (parts₀ m) c) : sProp 𝕄) ⊢ (pdats m 0 c).Φ 0 := by
  rw [show (pdats m 0 c).Φ 0 = iprop(Buffers c ∗ (∃ r, prngReg c r) ∗ Ready (parts₀ m) c) from rfl]
  iintro ⟨HS, HP, -, HR⟩
  ihave HS := (Entails.of_eq (scopedRest0_eq c)) $$ HS
  isplitl [HS]; · unfold Buffers; iexact HS
  isplitl [HP]; · iexact HP
  iexact HR

theorem empties (c : Dev nD) :
    ((pdats m 0 c).Φ (Fin.last (Pipeline.pin (pcfgs (F := F)) adm 0).N) : sProp 𝕄)
      ⊢ iprop(Pipeline.scopedRest (Pipeline.pin (pcfgs (F := F)) adm 0).spec c ∗ (∃ r, prngReg c r)
        ∗ StableHlo.held (c.tc : Thread nD τ) ∅ (V1 m c) ∗ Pipeline.ownSems0 copySem c ∗ semVal (barCell c) 0) := by
  rw [show (pdats m 0 c).Φ (Fin.last (Pipeline.pin (pcfgs (F := F)) adm 0).N) = iprop(After c ∗ ∃ r, prngReg c r) from rfl, held_none]
  unfold After Buffers
  iintro ⟨⟨HB, HZ, Hb⟩, HP⟩
  isplitl [HB]
  · iapply (Entails.of_eq (scopedRest0_eq c).symm); iexact HB
  isplitl [HP]; · iexact HP
  isplitr; · iempintro
  isplitl [HZ]; · iapply (Entails.of_eq (zeros_eq c).symm); iexact HZ
  iexact Hb

set_option backward.isDefEq.respectTransparency.types false in
/-- **The kernel's region**, from the arrays as the host leaves them to the arrays after it. -/
def region : Pipeline.RegionSeg (pcfgs (F := F)) adm (pdats m) () defs₀ 𝒱₀ L lv 0 :=
  Pipeline.RegionSeg.ofTalk (pcfgs (F := F)) adm (pdats m) () defs₀ 𝒱₀ L lv 0 copySem ownSems
    ∅ rest₀ (Finset.empty_subset _) launch0.toP rfl (fun c => (obligation m c).loose)
    (fun _ => 0) O₀ (fun c => (owed_zero m c).trans (zero_add _).symm) (owed_last m) (fun _ => rfl)
    (fun c w => by unfold Dat.share; split <;> rfl)
    (V0 m) (V1 m) (fun c b hb => Pipeline.afterRegion_off (dat m c) (V0 m c) _ b (Finset.sdiff_subset hb))
    (Before (parts₀ m)) (fun c => semVal (barCell c) 0) (Ready (parts₀ m)) (fun c => semVal (barCell c) 0)
    (enters m) (fills m) (empties m) (fun c => by iintro H; imodintro; iexact H)
    (fun _ => 0) (levels m) (fun _ => iprop(emp))
    (fun _ _ => rfl) (fun c w => (Pipeline.afterRegion_arr (dat m c) (V0 m c) winFacts0.arr_inj w).symm)

end Cert.KernelIdeal.Flow

end
-- ==== Proof.KernelIdeal.Deal.lean ====
/- What the launch deals to every device: the tokens of the duties it serves, and the credit of the cells it waits on. -/
module

public import proofs.«01_k».proof.Proof.KernelIdeal.Device
public import Idealize.ShloMosaic.Lib.Pipeline.Regions

@[expose] public section

set_option maxRecDepth 8000

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The tokens -/

/-- A barrier duty, by the device signalled and the bit it is signalled for. -/
def barDuty : Dev nD × Fin 4 ↪ GSem nD τ sig × ℕ × Fin 4 :=
  ⟨fun x => (barCell x.1, 0, x.2), fun _ _ h =>
    Prod.ext (congrArg (fun t : GSem nD τ sig × ℕ × Fin 4 => t.1.1.1) h) (congrArg (fun t : GSem nD τ sig × ℕ × Fin 4 => t.2.2) h)⟩
/-- A copy's duty at one of its two cells. -/
def copyDuty : Dev nD × (Bool × Fin 8 × Fin 4) ↪ GSem nD τ sig × ℕ × Fin 4 :=
  ⟨fun x => (copyEmb x, 0, 0), fun _ _ h => copyEmb.injective (congrArg (fun t : GSem nD τ sig × ℕ × Fin 4 => t.1) h)⟩

theorem copySem_ne_bar (x : Bool × Fin 8 × Fin 4) : copySem x ≠ .reg barS := by
  obtain ⟨a, h, s⟩ := x
  cases a <;> exact fun e => by cases e

theorem cells_disjoint : Disjoint (barCells : Finset (GSem nD τ sig)) copyCells := by
  rw [Finset.disjoint_left]
  rintro g h₁ h₂
  obtain ⟨c, -, rfl⟩ := Finset.mem_map.mp h₁
  obtain ⟨x, -, h⟩ := Finset.mem_map.mp h₂
  exact copySem_ne_bar x.2 (congrArg Prod.snd h)

/-- The tokens of all duties. -/
def duties₀ : Finset (GSem nD τ sig × ℕ × Fin 4) := Finset.univ.map barDuty ∪ Finset.univ.map copyDuty

theorem duties_disjoint : Disjoint (Finset.univ.map barDuty) (Finset.univ.map copyDuty) := by
  rw [Finset.disjoint_left]
  rintro g h₁ h₂
  obtain ⟨c, -, rfl⟩ := Finset.mem_map.mp h₁
  obtain ⟨x, -, h⟩ := Finset.mem_map.mp h₂
  exact copySem_ne_bar x.2 (congrArg (fun t : GSem nD τ sig × ℕ × Fin 4 => t.1.2) h)

/-- A device and a bit, seen from the partner. -/
def acrossBit : Dev nD × Fin 4 ≃ Dev nD × Fin 4 where
  toFun x := (partner x.2 x.1, x.2)
  invFun x := (partner x.2 x.1, x.2)
  left_inv x := Prod.ext (partner_partner _ _) rfl
  right_inv x := Prod.ext (partner_partner _ _) rfl
/-- A device and a copy, seen from the partner. -/
def acrossCopy : Dev nD × (Fin 8 × Fin 4) ≃ Dev nD × (Fin 8 × Fin 4) where
  toFun x := (peer x.2.1 x.2.2 x.1, x.2)
  invFun x := (peer x.2.1 x.2.2 x.1, x.2)
  left_inv x := Prod.ext (peer_peer _ _ _) rfl
  right_inv x := Prod.ext (peer_peer _ _ _) rfl

/-- Resources by device and bit go to the partners. -/
theorem to_partners (Φ : Dev nD → Fin 4 → sProp 𝕄) :
    (bigSep Finset.univ fun c : Dev nD => bigSep Finset.univ fun b => Φ c b) = bigSep Finset.univ fun c : Dev nD => bigSep Finset.univ fun b => Φ (partner b c) b := by
  rw [← bigSep_univ_prod (fun x : Dev nD × Fin 4 => Φ x.1 x.2), bigSep_univ_equiv acrossBit, bigSep_univ_prod]
  rfl
/-- Resources by device and copy go to the partners. -/
theorem to_peers (Φ : Dev nD → Fin 8 × Fin 4 → sProp 𝕄) :
    (bigSep Finset.univ fun c : Dev nD => bigSepL copies fun p => Φ c p) = bigSep Finset.univ fun c : Dev nD => bigSepL copies fun p => Φ (peer p.1 p.2 c) p := by
  rw [bigSep_congr (fun c _ => (all_copies (Φ c)).symm), ← bigSep_univ_prod (fun x : Dev nD × (Fin 8 × Fin 4) => Φ x.1 x.2),
    bigSep_univ_equiv acrossCopy, bigSep_univ_prod]
  exact bigSep_congr fun c _ => all_copies fun p => Φ (peer p.1 p.2 c) p

/-- The tokens, dealt. -/
theorem deal_tokens :
    (bigSep duties₀ (fun x => dutyTok ER x.1 x.2.1 x.2.2) : sProp 𝕄) = bigSep Finset.univ fun c : Dev nD => Toks c := by
  unfold duties₀ Toks
  rw [bigSep_union duties_disjoint, bigSep_map, bigSep_map, bigSep_univ_prod, bigSep_univ_prod,
    bigSep_congr (s := Finset.univ) (fun (c : Dev nD) _ => all_cells fun x => dutyTok (ER (F := F)) (copyDuty (c, x)).1 (copyDuty (c, x)).2.1 (copyDuty (c, x)).2.2),
    bigSep_sep', bigSep_sep', bigSep_sep']
  have h1 := to_partners (fun (c : Dev nD) b => (dutyTok (ER (F := F)) (barCell c) 0 b : sProp 𝕄))
  have h2 := to_peers (fun (c : Dev nD) p => (dutyTok (ER (F := F)) (rcvCell c p.1 p.2) 0 0 : sProp 𝕄))
  rw [← h1, ← h2]
  rfl

/-! ## The credit -/

theorem owedAt_sum (d : Dev nD) : owedAt d copies = ∑ p : Fin 8 × Fin 4, tallyAt (rcvCell (peer p.1 p.2 d) p.1 p.2) () N := by
  rw [univ_copies, List.sum_toFinset _ copies_nodup]; rfl
theorem owedBar_sum (d : Dev nD) : owedBar d [0, 1, 2, 3] = ∑ b : Fin 4, tallyAt (barCell (partner b d)) () 1 := by
  rw [univ_bits, List.sum_toFinset _ bits_nodup]; rfl

theorem rcv_ne_bar (c d : Dev nD) (h : Fin 8) (s : Fin 4) : rcvCell c h s ≠ barCell d := fun e =>
  copySem_ne_bar (true, h, s) (congrArg Prod.snd e)

theorem at_bar (d c : Dev nD) : O₀ d (barCell c) () = ∑ b : Fin 4, if d = partner b c then 1 else 0 := by
  unfold O₀
  rw [owedAt_sum, owedBar_sum, Pi.add_apply, Finsupp.add_apply, Finset.sum_apply, Finset.sum_apply, Finsupp.finset_sum_apply, Finsupp.finset_sum_apply,
    Finset.sum_eq_zero (fun p _ => by rw [tallyAt_ne_cell (rcv_ne_bar _ _ _ _).symm]; rfl), zero_add]
  refine Finset.sum_congr rfl fun b _ => ?_
  rw [tallyAt_apply]
  by_cases h : d = partner b c
  · rw [if_pos h, if_pos ⟨by rw [h, partner_partner], rfl⟩]
  · rw [if_neg h, if_neg (fun e => h ?_)]
    have e : c = partner b d := congrArg (fun g : GSem nD τ sig => g.1.1) e.1
    rw [e, partner_partner]

theorem at_rcv (d c : Dev nD) (h : Fin 8) (s : Fin 4) : O₀ d (rcvCell c h s) () = if d = peer h s c then N else 0 := by
  unfold O₀
  rw [owedAt_sum, owedBar_sum, Pi.add_apply, Finsupp.add_apply, Finset.sum_apply, Finset.sum_apply, Finsupp.finset_sum_apply, Finsupp.finset_sum_apply,
    Finset.sum_eq_zero (s := (Finset.univ : Finset (Fin 4))) (fun b _ => by rw [tallyAt_ne_cell (rcv_ne_bar _ _ _ _)]; rfl), add_zero,
    Finset.sum_eq_single (h, s)]
  · rw [tallyAt_apply]
    by_cases hd : d = peer h s c
    · rw [if_pos hd, if_pos ⟨by rw [hd, peer_peer], rfl⟩]
    · rw [if_neg hd, if_neg (fun e => hd ?_)]
      have e : c = peer h s d := congrArg (fun g : GSem nD τ sig => g.1.1) e.1
      rw [e, peer_peer]
  · intro p _ hp
    rw [tallyAt_ne_cell (fun e => hp ?_)]; · rfl
    have e : copySem (true, h, s) = copySem (true, p.1, p.2) := congrArg (fun g : GSem nD τ sig => g.2) e
    exact (congrArg Prod.snd (copySem_inj e)).symm
  · exact fun hn => absurd (Finset.mem_univ _) hn

theorem launched_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => at_bar d c, Finset.sum_comm]
  rw [Finset.sum_congr rfl fun b _ => (Finset.sum_ite_eq' Finset.univ (partner b c) fun _ => 1).trans (if_pos (Finset.mem_univ _))]
  rfl

theorem launched_rcv (c : Dev nD) (h : Fin 8) (s : Fin 4) :
    tallyOn (rcvCell c h s) (launchCredit (Pipeline.owing O₀) 0 (rcvCell c h s)) = (tallyAt (rcvCell c h s) () N : CellTallies nD τ sig Unit) := by
  unfold tallyAt; refine congrArg _ (Finsupp.ext fun u => ?_); cases u
  rw [Pipeline.launchCredit_owing, Finsupp.single_eq_same, Finset.sum_congr rfl fun d _ => at_rcv d c h s,
    Finset.sum_ite_eq' Finset.univ (peer h s c) fun _ => N, if_pos (Finset.mem_univ _)]

/-- The landing semaphores among a device's. -/
def rcvEmb : Fin 8 × Fin 4 ↪ SemLoc sig :=
  ⟨fun p => copySem (true, p), fun _ _ e => congrArg Prod.snd (copySem_inj e)⟩

/-- A device's credit at its launch is what its waits need. -/
theorem deal_credit (c : Dev nD) : (Pipeline.launchCred O₀ c : sProp 𝕄) ⊢ Creds c := by
  unfold Pipeline.launchCred Creds
  rw [bigSep_univ_at _ (SemLoc.reg barS), launched_bar]
  refine sep_mono_right ?_
  have hs : Finset.univ.map rcvEmb ⊆ (Finset.univ : Finset (SemLoc sig)).erase (SemLoc.reg barS) := fun sm hsm => by
    obtain ⟨p, -, rfl⟩ := Finset.mem_map.mp hsm
    exact Finset.mem_erase.mpr ⟨copySem_ne_bar (true, p), Finset.mem_univ _⟩
  have he : (bigSep (Finset.univ.map rcvEmb) fun sm : SemLoc sig =>
        cred (tallyOn ((c : Thread nD τ), sm) (launchCredit (Pipeline.owing O₀) 0 ((c : Thread nD τ), sm))) : sProp 𝕄)
      = bigSepL copies fun p => cred (tallyAt (rcvCell c p.1 p.2) () N) := by
    rw [bigSep_map, all_copies]
    congr 1
    funext p
    exact congrArg _ (launched_rcv c p.1 p.2)
  rw [← he]
  exact bigSep_subset hs

end Cert.KernelIdeal.Flow

end
-- ==== Proof.KernelIdeal.Launch.lean ====
/- The launch of the kernel: every device's run, from any memory with zero counters, and what it leaves. -/
module

public import proofs.«01_k».proof.Proof.KernelIdeal.Region
public import proofs.«01_k».proof.Proof.KernelIdeal.Deal
public import Idealize.ShloMosaic.Lib.Pipeline.Quiescent

@[expose] public section

set_option maxRecDepth 16384

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The host's operations around the region -/

/-- What rides along the operations before the region. -/
def riding (c : Dev nD) : sProp 𝕄 :=
  iprop((∃ r, prngReg c r) ∗ Before (parts₀ m) c ∗ ∃ W, owes (c : Thread nD τ) (O₀ c) W)
/-- And along those after it. -/
def closed (c : Dev nD) : sProp 𝕄 :=
  iprop(semVal (barCell c) 0 ∗ ∃ W, owes (c : Thread nD τ) (0 : CellTallies nD τ sig Unit) W)

local notation "ℍ" => Pipeline.HostSeg (Name := ℕ) (U := UU) (pcfgs (F := F)) defs₀ 𝒱₀ L lv

theorem ops0_within : ∀ op ∈ (hostOps0 : List (HloOp τ sig (Elt F))), op.bufs ⊆ Pipeline.ucRefs τ sig := fun op h =>
  Pipeline.sub_ucRefs op (List.forall_iff_forall_mem.mp hostOps0_sub op h)
theorem ops1_within : ∀ op ∈ (hostOps1 : List (HloOp τ sig (Elt F))), op.bufs ⊆ Pipeline.ucRefs τ sig := fun op h =>
  Pipeline.sub_ucRefs op (List.forall_iff_forall_mem.mp hostOps1_sub op h)

/-- The host before the region. -/
def host0 : ℍ := Pipeline.HostSeg.ofOps _ _ _ _ _ (Pipeline.ucRefs τ sig) hostOps0 ops0_within
  (List.forall_iff_forall_mem.mp hostOps0_fresh) (fun c b => m (c, b)) (riding m)
/-- The host after it. -/
def host1 : ℍ := Pipeline.HostSeg.ofOps _ _ _ _ _ (Pipeline.ucRefs τ sig) hostOps1 ops1_within
  (List.forall_iff_forall_mem.mp hostOps1_fresh) (V1 m) closed

/-- The program, in order. -/
def segs : List (Pipeline.Seg (pcfgs (F := F)) adm (pdats m) () defs₀ 𝒱₀ L lv) := [.host (host0 m), .region (region m), .host (host1 m)]

theorem main_eq (c : Dev nD) : main (F := F) c = Pipeline.Seg.run (segs m) :=
  main_segs adm (pdats m) () 𝒱₀ L lv (host0 m) (host1 m) (region m) rfl rfl c

/-- The windows' arrays and the rest are a device's buffers. -/
theorem held_eq (c : Dev nD) (W : Valuation τ sig (Elt F)) :
    (StableHlo.held (c.tc : Thread nD τ) (Pipeline.ucRefs τ sig) W : sProp 𝕄)
      = iprop(StableHlo.held (c.tc : Thread nD τ) (Pipeline.arrRefs spec0) W ∗ StableHlo.held (c.tc : Thread nD τ) rest₀ W) :=
  StableHlo.held_sub_split (c.tc : Thread nD τ) (Pipeline.arrRefs_sub_ucRefs spec0 launch0.win.arr_unscoped) W

theorem to_region (c : Dev nD) :
    iprop(StableHlo.held (c.tc : Thread nD τ) (Pipeline.ucRefs τ sig) (V0 m c) ∗ riding m c) ⊢ (region m).pre c := by
  show _ ⊢ iprop(StableHlo.held (c.tc : Thread nD τ) (Pipeline.arrRefs spec0) (V0 m c) ∗ (∃ r, prngReg c r)
    ∗ (StableHlo.held (c.tc : Thread nD τ) rest₀ (V0 m c) ∗ emp) ∗ Before (parts₀ m) c ∗ ∃ Wd, owes (c : Thread nD τ) (0 + O₀ c) Wd)
  rw [held_eq, zero_add]
  unfold riding
  iintro ⟨⟨HA, HR⟩, HP, HB, HO⟩
  isplitl [HA]; · iexact HA
  isplitl [HP]; · iexact HP
  isplitl [HR]
  · isplitl [HR]; · iexact HR
    iempintro
  isplitl [HB] <;> iassumption

theorem from_region (c : Dev nD) :
    (region m).post c ⊢ iprop(StableHlo.held (c.tc : Thread nD τ) (Pipeline.ucRefs τ sig) (V1 m c) ∗ closed (F := F) c) := by
  show iprop(StableHlo.held (c.tc : Thread nD τ) (Pipeline.arrRefs spec0) (V1 m c) ∗ (∃ r, prngReg c r)
    ∗ (StableHlo.held (c.tc : Thread nD τ) rest₀ (V1 m c) ∗ emp) ∗ semVal (barCell c) 0
    ∗ ∃ Wd, owes (c : Thread nD τ) (0 : CellTallies nD τ sig Unit) Wd) ⊢ _
  rw [held_eq]
  unfold closed
  iintro ⟨HA, -, ⟨HR, -⟩, HB, HO⟩
  isplitl [HA HR]; · isplitl [HA] <;> iassumption
  isplitl [HB] <;> iassumption

/-! ## The launch -/

/-- The launch element: the pipeline's cells and the protocol's. -/
def u₀ : UU :=
  (initOf (Pipeline.cells (Pipeline.pin (pcfgs (F := F)) adm) cellOf_inj) (Pipeline.launchToks (Pipeline.pin (pcfgs (F := F)) adm) cellOf_inj),
    launchOf barCells copyCells duties₀)

/-- A resource kept by the first device until it is dealt. -/
def first (X : sProp 𝕄) (c : Dev nD) : sProp 𝕄 := if c = 0 then X else iprop(emp)
theorem first_all (X : sProp 𝕄) : bigSep Finset.univ (first X) = X := by
  rw [bigSep_univ_at _ (0 : Dev nD), bigSep_congr (s := Finset.univ.erase (0 : Dev nD)) (Ψ := fun _ => (BI.emp : sProp 𝕄))
    (fun c hc => by unfold first; rw [if_neg (Finset.ne_of_mem_erase hc)]; rfl), BI.bigSep_emp_const]
  unfold first; rw [if_pos rfl]
  exact BI.equiv_iff.mp sep_emp

/-- The protocol's launch element. -/
def ghost : Dev nD → sProp 𝕄 := first (BI.own (ER (launchOf barCells copyCells duties₀)))

theorem unscopedSems_eq (c : Dev nD) : (unscopedSems0 c : sProp 𝕄) = semVal (barCell c) 0 := by
  unfold unscopedSems0
  rw [show (Finset.univ.filter fun sm : SemLoc sig => ¬sm.isScoped .tc = true) = {SemLoc.reg barS} by decide +kernel, bigSep_singleton]

/-- What a device starts with. -/
def begins (c : Dev nD) : sProp 𝕄 :=
  iprop(StableHlo.held (c.tc : Thread nD τ) (Pipeline.ucRefs τ sig) (fun b => m (c, b)) ∗ riding m c)

/-- What a device has at launch beside the protocol's state. -/
def bundle (c : Dev nD) : sProp 𝕄 :=
  iprop(StableHlo.held (c.tc : Thread nD τ) (Pipeline.ucRefs τ sig) (fun b => m (c, b)) ∗ (∃ r, prngReg c r)
    ∗ (∃ W, owes (c : Thread nD τ) (O₀ c) W) ∗ Creds c)
/-- Its part of the protocol's state. -/
def dealt (c : Dev nD) : sProp 𝕄 :=
  iprop(atPos (ER (F := F)) (barCell c) 0 ∅ 0 ∗ (bigSep Finset.univ fun x => openTok (ER (F := F)) (copyCell c x)) ∗ Toks c)

theorem starts (κ : GSem nD τ sig → ℕ) (c : Dev nD) : iprop(shared (parts₀ m) κ ∗ (dealt c ∗ bundle m c)) ⊢ begins m c := by
  unfold dealt bundle begins riding Before
  iintro ⟨#HS, ⟨HB, HT, HK⟩, HH, HP, HO, HC⟩
  isplitl [HH]; · iexact HH
  isplitl [HP]; · iexact HP
  isplitr [HO]
  · iexists κ
    isplitr; · iexact HS
    isplitl [HB]; · iexact HB
    isplitl [HT]; · iexact HT
    isplitl [HK] <;> iassumption
  · iexact HO

/-- A device's holdings at launch, sorted. -/
theorem sorted (c : Dev nD) :
    (iprop(unscopedBufs c (fun b => m ((c.tc : Thread nD τ).loc b)) ∗ unscopedSems0 c
        ∗ owes (c.tc : Thread nD τ) (O₀ c) ∅ ∗ Pipeline.launchCred O₀ c ∗ prngReg c (ρ c) ∗ ghost c) : sProp 𝕄)
      ⊢ iprop(bundle m c ∗ semVal (barCell c) 0 ∗ ghost c) := by
  rw [show (unscopedBufs c (fun b => m ((c.tc : Thread nD τ).loc b)) : sProp 𝕄)
      = StableHlo.held (c.tc : Thread nD τ) (Pipeline.ucRefs τ sig) (fun b => m (c, b)) from Pipeline.unscopedBufs_held c (fun b => m (c, b)),
    unscopedSems_eq]
  unfold bundle
  iintro ⟨HH, HZ, HO, HC, HP, HG⟩
  ihave HC := (deal_credit c) $$ HC
  isplitl [HH HO HC HP]
  · isplitl [HH]; · iexact HH
    isplitl [HP]; · iexists (ρ c); iexact HP
    isplitl [HO]; · iexists ∅; iexact HO
    iexact HC
  isplitl [HZ] <;> iassumption

/-- **The deal**: every device starts. -/
theorem deal :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost c)) ∗ levAts L lv)
      ⊢ (|={Set.univ}=> bigSep Finset.univ (begins m) : sProp 𝕄) := by
  have hsort : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost c) : sProp 𝕄)
      ⊢ bigSep Finset.univ fun c : Dev nD => iprop(bundle m c ∗ semVal (barCell c) 0 ∗ ghost c) := bigSep_mono fun c _ => sorted m ρ c
  have hzero : (bigSep Finset.univ fun c : Dev nD => (semVal (barCell c) 0 : sProp 𝕄)) = bigSep barCells fun g => semVal g 0 :=
    (bigSep_map (s := Finset.univ) barEmb (Φ := fun g : GSem nD τ sig => (semVal g 0 : sProp 𝕄))).symm
  have hat : (bigSep barCells fun g => (atPos ER g 0 ∅ 0 : sProp 𝕄)) = bigSep Finset.univ fun c : Dev nD => atPos ER (barCell c) 0 ∅ 0 :=
    bigSep_map (s := Finset.univ) barEmb (Φ := fun g : GSem nD τ sig => (atPos ER g 0 ∅ 0 : sProp 𝕄))
  have hopen : (bigSep copyCells fun g => (openTok ER g : sProp 𝕄))
      = bigSep Finset.univ fun c : Dev nD => bigSep Finset.univ fun x => openTok ER (copyCell c x) := by
    rw [bigSep_map, bigSep_univ_prod]; rfl
  iintro ⟨H, #HL⟩
  ihave H := hsort $$ H
  ihave H := (Entails.of_eq (bigSep_sep' _ _ _)) $$ H; icases H with ⟨HB, H⟩
  ihave H := (Entails.of_eq (bigSep_sep' _ _ _)) $$ H; icases H with ⟨HZ, HG⟩
  ihave HG := (show bigSep Finset.univ (ghost (F := F)) ⊢ BI.own (ER (launchOf barCells copyCells duties₀)) from Entails.of_eq (first_all _)) $$ HG
  ihave HZ := (Entails.of_eq hzero) $$ HZ
  imod (Rounds.fund_launch ER (exch (parts₀ m)) cells_disjoint (fun g _ h => h) duties₀) $$ [HZ HG] with ⟨%κ, -, #HI, #HR, Hat, Hop, Htok⟩
  · isplitl [HZ] <;> iassumption
  ihave Hat := (Entails.of_eq hat) $$ Hat
  ihave Hop := (Entails.of_eq hopen) $$ Hop
  ihave Htok := (Entails.of_eq deal_tokens) $$ Htok
  imodintro
  iapply (bigSep_with_persistent (R := shared (parts₀ m) κ) (Φ := fun c => iprop(dealt c ∗ bundle m c)) fun c _ => starts m κ c)
  isplitr
  · unfold shared
    isplitr; · iexact HI
    isplitr; · iexact HR
    iexact HL
  iapply (Entails.of_eq (bigSep_sep' _ _ _).symm)
  isplitr [HB]
  · unfold dealt
    iapply (Entails.of_eq (bigSep_sep' _ _ _).symm); isplitl [Hat]; · iexact Hat
    iapply (Entails.of_eq (bigSep_sep' _ _ _).symm); isplitl [Hop]; · iexact Hop
    iexact Htok
  · iexact HB

/-! ## The run -/

/-- A device's buffers at the end. -/
abbrev V2 (c : Dev nD) : Valuation τ sig (Elt F) := StableHlo.after hostOps1 (V1 m c)

theorem unscoped_bar : ∀ sm : SemLoc sig, sm.isScoped .tc = false → sm = .reg barS := by decide +kernel

set_option backward.isDefEq.respectTransparency.types false in
/-- **The run**: from any memory with zero counters, every device ends with its buffers as computed, and every counter at zero. -/
theorem run : θ_run defs (onTc (τ := τ) (main (F := F))) ⟨m, fun _ => 0, ρ⟩
    (fun r => (∀ c : Dev nD, ∀ b ∈ Pipeline.ucRefs τ sig, r.2.mem (c, b) = V2 m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := ghost) (u₀ := u₀)
    (hu₀ := by
      unfold u₀ ghost
      iintro Hu
      ihave H := (ownU_pair _ _) $$ Hu
      icases H with ⟨HP, HX⟩
      imodintro
      isplitl [HP]; · iexact HP
      rw [first_all]; iexact HX)
    (T₀ := begins m)
    (Tₙ := fun c => iprop(StableHlo.held (c.tc : Thread nD τ) (Pipeline.ucRefs τ sig) (V2 m c) ∗ semVal (barCell c) 0))
    (hch := by
      refine ⟨fun c => .rfl, fun c => to_region m c, fun c => from_region m c, fun c => ?_⟩
      show iprop(StableHlo.held (c.tc : Thread nD τ) (Pipeline.ucRefs τ sig) (V2 m c) ∗ closed c)
        ⊢ iprop((StableHlo.held (c.tc : Thread nD τ) (Pipeline.ucRefs τ sig) (V2 m c) ∗ semVal (barCell c) 0)
          ∗ ∃ W, owes (c : Thread nD τ) (0 : CellTallies nD τ sig Unit) W)
      unfold closed
      iintro ⟨HH, HB, HO⟩
      isplitr [HO]
      · isplitl [HH] <;> iassumption
      · iexact HO)
    (hinit := deal m ρ)
    (QY := fun c s => (∀ b ∈ Pipeline.ucRefs τ sig, s.mem (c, b) = V2 m c b) ∧ s.sem (barCell c) = 0)
    (hfin := fun c s' => by
      unfold StableHlo.held
      iintro ⟨⟨HH, HB⟩, HSI⟩
      ihave H := (pointsTo_read_all (Pipeline.ucRefs τ sig) (fun b => ((c.tc : Thread nD τ).1, b)) (V2 m c) s') $$ [HH HSI]
      · isplitl [HH] <;> iassumption
      icases H with ⟨%hx, HSI⟩
      icombine HSI HB gives %hb
      imodintro
      isplitr
      · ipureintro
        exact ⟨hx, by simpa using hb⟩
      iexact HSI)
    (hQ := fun s h hs => ⟨fun c => (h c).1, sem_eq_zero hs fun c sm hsm => by
      obtain rfl := unscoped_bar sm hsm
      exact (h c).2⟩)

end Cert.KernelIdeal.Flow

end
-- ==== Proof.KernelIdeal.Final.lean ====
/- What a run leaves: the result, the arguments unchanged, every counter at zero. -/
module

public import proofs.«01_k».proof.Proof.KernelIdeal.Launch

@[expose] public section

set_option maxRecDepth 16384

noncomputable section

namespace Cert.KernelIdeal.Flow

open Idealize.ShloMosaic Idealize.ShloMosaic.TcCoe Cert.KernelIdeal Cert.KernelIdeal.Gen
open Idealize.SL.Sem

variable {F : FTy → Type} [FloatOps F] [Named F]

variable (m : (ℓ : Loc nD τ sig) → Buf (Elt F) ℓ) (ρ : Dev nD → PrngReg)

/-- The reshape after the region writes the result array only. -/
theorem kept_after (V : Valuation τ sig (Elt F)) (b : Ref sig .tc) (hb : b ≠ main_v5) :
    StableHlo.after hostOps1 V (Proc.devRef .tc b) = V (Proc.devRef .tc b) :=
  StableHlo.after_of_forall_not_mem _ _ (List.forall_iff_forall_mem.mp (by
    simp only [hostOps1, List.Forall, StableHlo.reshape_writes, Finset.mem_singleton]
    exact StableHlo.devRef_ne_of_ne hb))

/-- An argument's array is the same at the end as at the start. -/
theorem kept0 (c : Dev nD) : V2 m c (Proc.devRef .tc main_arg0) = m ((c.tc : Thread nD τ).loc main_arg0) :=
  (kept_after _ _ (by decide)).trans ((Pipeline.afterRegion_of_not_arr (dat m c) (V0 m c) (by decide)).trans (V_main_arg0 m c))
theorem kept1 (c : Dev nD) : V2 m c (Proc.devRef .tc main_arg1) = m ((c.tc : Thread nD τ).loc main_arg1) :=
  (kept_after _ _ (by decide)).trans ((Pipeline.afterRegion_arr (dat m c) (V0 m c) winFacts0.arr_inj 1).trans
    (((dat m c).arrAt_in 1 rfl _).trans (V_main_arg1 m c)))
theorem kept2 (c : Dev nD) : V2 m c (Proc.devRef .tc main_arg2) = m ((c.tc : Thread nD τ).loc main_arg2) :=
  (kept_after _ _ (by decide)).trans ((Pipeline.afterRegion_of_not_arr (dat m c) (V0 m c) (by decide)).trans (V_main_arg2 m c))
theorem kept3 (c : Dev nD) : V2 m c (Proc.devRef .tc main_arg3) = m ((c.tc : Thread nD τ).loc main_arg3) :=
  (kept_after _ _ (by decide)).trans ((Pipeline.afterRegion_of_not_arr (dat m c) (V0 m c) (by decide)).trans (V_main_arg3 m c))
theorem kept4 (c : Dev nD) : V2 m c (Proc.devRef .tc main_arg4) = m ((c.tc : Thread nD τ).loc main_arg4) :=
  (kept_after _ _ (by decide)).trans ((Pipeline.afterRegion_arr (dat m c) (V0 m c) winFacts0.arr_inj 2).trans
    (((dat m c).arrAt_in 2 rfl _).trans (V_main_arg4 m c)))

/-! ## The blocks the kernel reads are the arguments -/

/-- The query rows. -/
def argX (c : Dev nD) : Vec F S256x1024 .bf16 :=
  shapeCast S256x1024 (m ((c.tc : Thread nD τ).loc main_arg0)) shapeCasts_S1x256x1024_S256x1024
/-- The device's keys. -/
def argK (c : Dev nD) : Vec F S4096x256 .bf16 :=
  shapeCast S4096x256 (m ((c.tc : Thread nD τ).loc main_arg2)) shapeCasts_S1x4096x2x128_S4096x256
/-- The device's values. -/
def argV (c : Dev nD) : Vec F S4096x256 .bf16 :=
  shapeCast S4096x256 (m ((c.tc : Thread nD τ).loc main_arg3)) shapeCasts_S1x4096x2x128_S4096x256

theorem V_x (c : Dev nD) : V m c main_v1 = argX m c := by
  show StableHlo.after hostOps0 _ (Proc.devRef .tc main_v1) = _
  after_results <;> rfl
theorem V_k (c : Dev nD) : V m c main_v2 = argK m c := by
  show StableHlo.after hostOps0 _ (Proc.devRef .tc main_v2) = _
  after_results <;> rfl
theorem V_v (c : Dev nD) : V m c main_v3 = argV m c := by
  show StableHlo.after hostOps0 _ (Proc.devRef .tc main_v3) = _
  after_results <;> rfl

/-- The one block of each window is its whole array: the window's place `j` is the array's place `j`. -/
theorem placed {a b : ℕ} (u v : (⟨2, ![a, b]⟩ : Shape).Idx) (h0 : (u 0).val = 0 * a + 1 * (v 0).val) (h1 : (u 1).val = 0 * b + 1 * (v 1).val) :
    u = v := by
  funext k
  apply Fin.ext
  fin_cases k
  · show (u 0).val = (v 0).val
    omega
  · show (u 1).val = (v 1).val
    omega

theorem blk0 (c : Dev nD) : iblk m c 0 t0_0 = argX m c := by
  rw [← V_x]; exact funext fun j => congrArg (V m c main_v1) (placed (a := 256) (b := 1024) (((cfg0.win 0).blk t0_0).view.emb j) j rfl rfl)
theorem blk1 (c : Dev nD) : iblk m c 1 t0_0 = m ((c.tc : Thread nD τ).loc main_arg1) := by
  rw [← V_main_arg1 m c]; exact funext fun j => congrArg (V m c main_arg1) (placed (a := 1024) (b := 1024) (((cfg0.win 1).blk t0_0).view.emb j) j rfl rfl)
theorem blk2 (c : Dev nD) : iblk m c 2 t0_0 = m ((c.tc : Thread nD τ).loc main_arg4) := by
  rw [← V_main_arg4 m c]; exact funext fun j => congrArg (V m c main_arg4) (placed (a := 1024) (b := 1024) (((cfg0.win 2).blk t0_0).view.emb j) j rfl rfl)
theorem blk3 (c : Dev nD) : iblk m c 3 t0_0 = argK m c := by
  rw [← V_k]; exact funext fun j => congrArg (V m c main_v2) (placed (a := 4096) (b := 256) (((cfg0.win 3).blk t0_0).view.emb j) j rfl rfl)
theorem blk4 (c : Dev nD) : iblk m c 4 t0_0 = argV m c := by
  rw [← V_v]; exact funext fun j => congrArg (V m c main_v3) (placed (a := 4096) (b := 256) (((cfg0.win 4).blk t0_0).view.emb j) j rfl rfl)

/-- The partial a device computes on its own keys and values, a head group at a time. -/
def devParts (c : Dev nD) : Fin 8 → FVec F S258x128 .f32 :=
  own (argX m c) (m ((c.tc : Thread nD τ).loc main_arg1)) (argK m c) (argV m c)

/-- The result array the kernel leaves. -/
def answer (c : Dev nD) : Vec F S1x256x1024 .f32 :=
  shapeCast S1x256x1024 (outVal (devParts m) c (m ((c.tc : Thread nD τ).loc main_arg4)) : Vec F S256x1024 .f32) shapeCasts_S256x1024_S1x256x1024

theorem result_eq (c : Dev nD) : result m c = outVal (devParts m) c (m ((c.tc : Thread nD τ).loc main_arg4)) := by
  have h : parts₀ m = devParts m := funext fun c => by unfold parts₀ devParts; rw [blk0, blk1, blk3, blk4]
  unfold result
  rw [h, blk2]

theorem out_array (c : Dev nD) : V1 m c (Proc.devRef .tc main_v4) = result m c := by
  have place (j : S256x1024.Idx) : ((cfg0.win 5).blk t0_0).view.emb j = j :=
    placed (a := 256) (b := 1024) (((cfg0.win 5).blk t0_0).view.emb j) j rfl rfl
  refine (Pipeline.afterRegion_arr (dat m c) (V0 m c) winFacts0.arr_inj 5).trans
    (Pipeline.Dat.arrAt_eq_of_cover (dat m c) 5 (result m c) (fun t _ => ?_) (fun i => ⟨t0_0, flush0_5 t0_0, Finset.mem_map.mpr ⟨i, Finset.mem_univ _, place i⟩⟩))
  obtain rfl := fin_N0 t
  exact funext fun j => (congrArg (result m c) (place j)).symm

theorem out_final (c : Dev nD) : V2 m c (Proc.devRef .tc main_v5) = answer m c := by
  unfold answer
  rw [← result_eq, ← out_array]
  show StableHlo.after hostOps1 _ (Proc.devRef .tc main_v5) = _
  after_results <;> rfl

/-- **The run**: from any memory with zero counters every device ends with the result array at `answer`, its arguments
    unchanged, and every counter at zero. -/
theorem ends : θ_run defs (onTc (τ := τ) (main (F := F))) ⟨m, fun _ => 0, ρ⟩ (fun r => (∀ c : Dev nD,
      r.2.mem ((c.tc : Thread nD τ).loc main_v5) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have at_ (b : Ref sig .tc) (hb : Proc.devRef .tc b ∈ Pipeline.ucRefs τ sig) := h.1 c (Proc.devRef .tc b) hb
    ⟨(at_ main_v5 (Pipeline.devRef_mem_ucRefs (by decide))).trans (out_final m c),
      (at_ main_arg0 (Pipeline.devRef_mem_ucRefs (by decide))).trans (kept0 m c),
      (at_ main_arg1 (Pipeline.devRef_mem_ucRefs (by decide))).trans (kept1 m c),
      (at_ main_arg2 (Pipeline.devRef_mem_ucRefs (by decide))).trans (kept2 m c),
      (at_ main_arg3 (Pipeline.devRef_mem_ucRefs (by decide))).trans (kept3 m c),
      (at_ main_arg4 (Pipeline.devRef_mem_ucRefs (by decide))).trans (kept4 m c)⟩, h.2⟩) (run m ρ)

end Cert.KernelIdeal.Flow

end
-- ==== Proof.Value.Attention.lean ====
/- Attention over extended reals: shifting every score of a row by the row's greatest changes no quotient. -/
module

public import Idealize.ShloMosaic.Lib.Pointwise

@[expose] public section

noncomputable section

namespace Cert.Meet

open Idealize.ShloMosaic

/-- A finite sum of reals, as extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite extended real. -/
def IsFinite (a : EReal) : Prop := ∃ r : ℝ, a = (r : EReal)

/-- A product of finite numbers is finite. -/
theorem IsFinite.mul {a b : EReal} (ha : IsFinite a) (hb : IsFinite b) : IsFinite (a * b) := by
  obtain ⟨r, rfl⟩ := ha
  obtain ⟨s, rfl⟩ := hb
  exact ⟨r * s, (EReal.coe_mul r s).symm⟩

/-- A sum of finite numbers is finite. -/
theorem IsFinite.sum {ι : Type} (s : Finset ι) {f : ι → EReal} (hf : ∀ i, IsFinite (f i)) : IsFinite (∑ i ∈ s, f i) := by
  choose g hg using hf
  refine ⟨∑ i ∈ s, g i, ?_⟩
  rw [coe_sum]
  exact Finset.sum_congr rfl fun i _ => hg i

/-- A positive real factor moves out of a sum. -/
theorem mul_sum_pos {ι : Type} (s : Finset ι) (c : ℝ) (hc : 0 < c) (f : ι → EReal) : ∑ i ∈ s, (c : EReal) * f i = (c : EReal) * ∑ i ∈ s, f i := by
  classical
  induction s using Finset.induction_on with
  | empty => simp
  | insert a s ha ih => rw [Finset.sum_insert ha, Finset.sum_insert ha, ih, EReal.left_distrib_of_nonneg_of_ne_top (by exact_mod_cast hc.le) (EReal.coe_ne_top c)]

/-- A positive real factor of both sides of a quotient cancels. -/
theorem div_cancel (c l : ℝ) (hc : 0 < c) (hl : 0 < l) (a : EReal) : Ideal.div ((c : EReal) * a) ((c : EReal) * (l : EReal)) = Ideal.div a (l : EReal) := by
  rw [← EReal.coe_mul, Ideal.div_coe (mul_pos hc hl).ne', Ideal.div_coe hl.ne', mul_comm (c : EReal) a, mul_assoc, ← EReal.coe_mul]
  congr 2
  field_simp

/-- The greatest of finitely many finite numbers, at least one, is finite. -/
theorem fold_max_fin {ι : Type} [Fintype ι] [Nonempty ι] (f : ι → ℝ) : IsFinite (Finset.univ.fold max (⊥ : EReal) fun i => (f i : EReal)) := by
  rw [show (Finset.univ.fold max (⊥ : EReal) fun i => (f i : EReal)) = Finset.univ.sup fun i => (f i : EReal) from rfl]
  obtain ⟨i, -, hi⟩ := Finset.exists_mem_eq_sup Finset.univ Finset.univ_nonempty fun i => (f i : EReal)
  exact ⟨f i, hi⟩

/-- **The row's quotient**: with the scores shifted by the greatest of them, or as they are. -/
theorem shift {ι : Type} [Fintype ι] [Nonempty ι] (s : ι → EReal) (hs : ∀ i, IsFinite (s i)) (v : ι → EReal) :
    Ideal.div (∑ j, v j * Ideal.exp (s j - Finset.univ.fold max (⊥ : EReal) s)) (∑ j, Ideal.exp (s j - Finset.univ.fold max (⊥ : EReal) s))
      = Ideal.div (∑ j, Ideal.exp (s j) * v j) (∑ j, Ideal.exp (s j)) := by
  choose r hr using hs
  obtain rfl : s = fun i => (r i : EReal) := funext hr
  obtain ⟨t, ht⟩ := fold_max_fin r
  rw [ht]
  have e1 (j : ι) : Ideal.exp ((r j : EReal) - (t : EReal)) = ((Real.exp (r j - t) : ℝ) : EReal) := by
    rw [← EReal.coe_sub]; rfl
  have e2 (j : ι) : Ideal.exp (r j : EReal) = ((Real.exp t : ℝ) : EReal) * ((Real.exp (r j - t) : ℝ) : EReal) := by
    rw [← EReal.coe_mul, ← Real.exp_add]; show ((Real.exp (r j) : ℝ) : EReal) = _; congr 2; ring
  have l : (∑ j, ((Real.exp (r j - t) : ℝ) : EReal)) = ((∑ j, Real.exp (r j - t) : ℝ) : EReal) := (coe_sum _ _).symm
  have pos : 0 < ∑ j, Real.exp (r j - t) := Finset.sum_pos (fun j _ => Real.exp_pos _) Finset.univ_nonempty
  simp only [e1, e2]
  rw [mul_sum_pos _ _ (Real.exp_pos t), l]
  rw [show (∑ j, ((Real.exp t : ℝ) : EReal) * ((Real.exp (r j - t) : ℝ) : EReal) * v j)
      = ((Real.exp t : ℝ) : EReal) * ∑ j, v j * ((Real.exp (r j - t) : ℝ) : EReal) from ?_]
  · exact (div_cancel _ _ (Real.exp_pos t) pos _).symm
  · rw [← mul_sum_pos _ _ (Real.exp_pos t)]
    exact Finset.sum_congr rfl fun j _ => by rw [mul_assoc, mul_comm (v j)]

/-- Scaling the queries or scaling the scores. -/
theorem scale_out {ι : Type} [Fintype ι] (q k : ι → EReal) (c : ℝ) (hc : 0 < c) :
    ∑ e, q e * (c : EReal) * k e = (∑ e, q e * k e) * (c : EReal) := by
  rw [mul_comm (∑ e, q e * k e), ← mul_sum_pos _ c hc]
  exact Finset.sum_congr rfl fun e _ => by rw [mul_right_comm, mul_comm]

/-- The scale of the scores: one over the root of a head's width. -/
def scale : ℝ := (Real.sqrt 128)⁻¹

theorem scale_pos : 0 < scale := inv_pos.mpr (Real.sqrt_pos.mpr (by norm_num))

/-- Dividing by the root is multiplying by the scale. -/
theorem div_root (a : EReal) : Ideal.div a (Ideal.sqrt (Ideal.ofBits .f32 0x43000000#32)) = a * (scale : EReal) := by
  have w : Ideal.ofBits .f32 0x43000000#32 = ((128 : ℝ) : EReal) := by
    simp [Ideal.ofBits, Ideal.ieee, -EReal.coe_mul]
    norm_num
  rw [w, Ideal.sqrt_coe, if_neg (by norm_num), Ideal.div_coe (Real.sqrt_pos.mpr (by norm_num)).ne', one_div]
  rfl

/-- The word that a maximum starts from is the least number. -/
theorem bottom : Ideal.ofBits .f32 0xFF800000#32 = ⊥ := by
  simp [Ideal.ofBits, Ideal.ieee]

end Cert.Meet

end
-- ==== Proof.Value.Reference.lean ====
/- The reference's result, read at an index. -/
module

public import proofs.«01_k».proof.Proof.Gen.ReferenceIdeal
public import proofs.«01_k».proof.Proof.Gen.ReferenceIdeal.Run
public import proofs.«01_k».proof.Proof.Value.Attention
public import Idealize.ShloMosaic.Lib.Pointwise

@[expose] public section

set_option maxRecDepth 16384

noncomputable section

namespace Cert.Meet

open Idealize.ShloMosaic Cert.ReferenceIdeal Cert.ReferenceIdeal.Gen

variable (m : (ℓ : Loc nD τ sig) → Buf (Elt Ideal) ℓ) (c : Dev nD)

/-- The arguments, entry by entry. -/
abbrev atX (i : Fin 256) (k : Fin 1024) : EReal := m (c.tc.loc main_arg0) (ix3 0 i k)
abbrev atWq (k x : Fin 1024) : EReal := m (c.tc.loc main_arg1) (ix2 k x)
abbrev atK (j : Fin 65536) (g : Fin 2) (e : Fin 128) : EReal := m (c.tc.loc main_arg2) (ix4 0 j g e)
abbrev atV (j : Fin 65536) (g : Fin 2) (e : Fin 128) : EReal := m (c.tc.loc main_arg3) (ix4 0 j g e)
abbrev atWo (x n : Fin 1024) : EReal := m (c.tc.loc main_arg4) (ix2 x n)

/-- The score of query row `i` against key `j`, in the head of column `x`. -/
def score (i : Fin 256) (x : Fin 1024) (j : Fin 65536) : EReal :=
  (∑ e : Fin 128, (∑ k : Fin 1024, atX m c i k * atWq m c k ⟨x.val / 128 * 128 + e.val, by omega⟩) * atK m c j ⟨x.val / 128 / 4, by omega⟩ e)
    * (scale : EReal)

/-- The value that goes with key `j` in column `x`. -/
def value (x : Fin 1024) (j : Fin 65536) : EReal := atV m c j ⟨x.val / 128 / 4, by omega⟩ ⟨x.val % 128, by omega⟩

/-- The reference's result: attention over all the keys, then the output projection. -/
theorem ref_at (i : Fin 256) (n : Fin 1024) : @Eq EReal (Cert.ReferenceIdeal.Value.res_main_v27 m c (ix3 0 i n)) (
    ∑ x : Fin 1024, Ideal.div
      (∑ j : Fin 65536, value m c x j * Ideal.exp (score m c i x j - Finset.univ.fold max (⊥ : EReal) (score m c i x)))
      (∑ j : Fin 65536, Ideal.exp (score m c i x j - Finset.univ.fold max (⊥ : EReal) (score m c i x)))
      * atWo m c x n) := by
  rw [← bottom]
  show _ = (∑ x : Fin 1024, Ideal.div
      (∑ j : Fin 65536, value m c x j * Ideal.exp (score m c i x j - Finset.univ.fold max (Ideal.ofBits .f32 0xFF800000#32) (fun j => score m c i x j)))
      (∑ j : Fin 65536, Ideal.exp (score m c i x j - Finset.univ.fold max (Ideal.ofBits .f32 0xFF800000#32) (fun j => score m c i x j)))
      * atWo m c x n : EReal)
  unfold score value
  simp only [← div_root]
  pointwise [Cert.ReferenceIdeal.Value.res_main_v27]

/-- The same with the scores as they are, where they are finite. -/
theorem ref_plain (hs : ∀ i x j, IsFinite (score m c i x j)) (i : Fin 256) (n : Fin 1024) :
    @Eq EReal (Cert.ReferenceIdeal.Value.res_main_v27 m c (ix3 0 i n)) (
    ∑ x : Fin 1024, Ideal.div (∑ j : Fin 65536, Ideal.exp (score m c i x j) * value m c x j) (∑ j : Fin 65536, Ideal.exp (score m c i x j))
      * atWo m c x n) := by
  rw [ref_at]
  exact Finset.sum_congr (M := EReal) rfl fun x _ => by rw [shift _ (hs i x)]

end Cert.Meet

end
-- ==== Proof.Value.Masks.lean ====
/- The kernel's three masks of zeros and ones, read at an index. -/
module

public import proofs.«01_k».proof.Proof.KernelIdeal.Run
public import proofs.«01_k».proof.Proof.Value.Attention
public import Idealize.ShloMosaic.Lib.Pointwise

@[expose] public section

set_option maxRecDepth 16384

noncomputable section

namespace Cert.Meet

open Idealize.ShloMosaic Cert.KernelIdeal Cert.KernelIdeal.Gen Cert.KernelIdeal.Flow

/-- A comparison's bit as a number. -/
theorem indicator (u v : ℕ) (hu : u < 2 ^ 32) (hv : v < 2 ^ 32) :
    FloatOps.sitofp (F := Ideal) FTy.f32 (BitVec.setWidth 32 (IntOp.cmpi .eq (BitVec.ofNat 32 u) (BitVec.ofNat 32 v)))
      = if u = v then 1 else 0 := by
  have hn : (BitVec.ofNat 32 u = BitVec.ofNat 32 v) ↔ u = v := by
    constructor
    · intro h
      have := congrArg BitVec.toNat h
      rwa [BitVec.toNat_ofNat, BitVec.toNat_ofNat, Nat.mod_eq_of_lt hu, Nat.mod_eq_of_lt hv] at this
    · rintro rfl; rfl
  by_cases h : u = v
  · subst h
    rw [if_pos rfl]
    have : IntOp.cmpi .eq (BitVec.ofNat 32 u) (BitVec.ofNat 32 u) = 1#1 := by simp [IntOp.cmpi]
    rw [this]
    show (((BitVec.setWidth 32 1#1).toInt : ℝ) : EReal) = 1
    simp
  · rw [if_neg h]
    have : IntOp.cmpi .eq (BitVec.ofNat 32 u) (BitVec.ofNat 32 v) = 0#1 := by
      show BitVec.ofBool (BitVec.ofNat 32 u == BitVec.ofNat 32 v) = 0#1
      rw [beq_eq_false_iff_ne.mpr (fun e => h (hn.mp e))]
      rfl
    rw [this]
    show (((BitVec.setWidth 32 0#1).toInt : ℝ) : EReal) = 0
    simp

/-- One exactly where the row's number modulo 128 is the column's. -/
theorem diag_at (a : Fin 256) (b : Fin 128) : (diagVal (F := Ideal)) (ix2 a b) = if a.val % 128 = b.val then 1 else 0 := by
  refine Eq.trans ?_ (indicator (a.val % 128) b.val (by omega) (by omega))
  pointwise [diagVal, k0_pay3]
  refine congrArg (fun w : BitVec 32 => FloatOps.sitofp (F := Ideal) FTy.f32 (BitVec.setWidth 32 (IntOp.cmpi .eq w (BitVec.ofNat 32 b.val)))) ?_
  revert a
  decide +kernel

/-- One exactly where the column lies in the row's half. -/
theorem pack_at (a : Fin 2) (b : Fin 256) : (packVal (F := Ideal)) (ix2 a b) = if b.val / 128 = a.val then 1 else 0 := by
  refine Eq.trans ?_ (indicator (b.val / 128) a.val (by omega) (by omega))
  pointwise [packVal, k0_pay4]
  refine congrArg (fun w : BitVec 32 => FloatOps.sitofp (F := Ideal) FTy.f32 (BitVec.setWidth 32 (IntOp.cmpi .eq w (BitVec.ofNat 32 a.val)))) ?_
  revert b
  decide +kernel

/-- One exactly where the row lies in the column's half. -/
theorem unpack_at (a : Fin 256) (b : Fin 2) : (unpackVal (F := Ideal)) (ix2 a b) = if a.val / 128 = b.val then 1 else 0 := by
  refine Eq.trans ?_ (indicator (a.val / 128) b.val (by omega) (by omega))
  pointwise [unpackVal, k0_pay6, k0_pay5]
  refine congrArg (fun w : BitVec 32 => FloatOps.sitofp (F := Ideal) FTy.f32 (BitVec.setWidth 32 (IntOp.cmpi .eq w (BitVec.ofNat 32 b.val)))) ?_
  revert a
  decide +kernel

/-- The kernel's named constant is the scale. -/
theorem scale_word : Named.named (F := Ideal) κ "inv_sqrt_d" (φ := .f32) 0x3DB504F3#32 = (scale : EReal) :=
  IdealRules.named_const.ideal_named_scalar _ _ _ _ rfl

variable (x : Vec Ideal S256x1024 .bf16) (wq : Vec Ideal S1024x1024 .bf16)

/-- A query: the projection, scaled. -/
theorem q_at (i : Fin 256) (n : Fin 1024) :
    qVal x wq (ix2 i n) = (∑ k : Fin 1024, x (ix2 i k) * wq (ix2 k n)) * (scale : EReal) := by
  rw [← scale_word]
  pointwise [qVal, k0_pay2]

/-- A key, as loaded. -/
theorem key_at (k : Vec Ideal S4096x128 .bf16) (j : Fin 4096) (e : Fin 128) : keyVal k (ix2 j e) = k (ix2 j e) := by
  pointwise [keyVal, k0_pay8]

/-- A value, or one in the columns added to the values. -/
theorem val_at (k : Vec Ideal S4096x128 .bf16) (j : Fin 4096) (e : Fin 256) :
   valVal k (ix2 j e) = if h : e.val < 128 then k (ix2 j ⟨e.val, h⟩) else 1 := by
  pointwise [valVal, k0_pay9, k0_pay7]

/-- The exponentials of a head's scores, times the values. -/
theorem pv_at (h : Fin 8) (q : FVec Ideal S256x1024 .bf16) (k : FVec Ideal S4096x128 .bf16) (v : FVec Ideal S4096x256 .bf16) (i d : Fin 256) :
    pvVal h q k v (ix2 i d) = ∑ j : Fin 4096, Ideal.exp (∑ e : Fin 128, q (ix2 i ⟨128 * h.val + e.val, by omega⟩) * k (ix2 j e)) * v (ix2 j d) := by
  pointwise [pvVal]

/-- The 256 sums of the weights, packed into two rows. -/
theorem low_at (pv : FVec Ideal S256x256 .f32) (a : Fin 2) (b : Fin 128) :
    lowVal pv (ix2 a b) = pv (ix2 ⟨128 * a.val + b.val, by omega⟩ ⟨128 + b.val, by omega⟩) := by
  have e : lowVal pv (ix2 a b) = ∑ r : Fin 256, (packVal (F := Ideal)) (ix2 a r) * (pv (ix2 r ⟨128 + b.val, by omega⟩) * (diagVal (F := Ideal)) (ix2 r b)) := by
    unfold lowVal
    generalize packVal (F := Ideal) = A
    generalize diagVal (F := Ideal) = B
    pointwise
  rw [e, Finset.sum_eq_single (⟨128 * a.val + b.val, by omega⟩ : Fin 256)]
  · rw [pack_at, diag_at, if_pos (by show (128 * a.val + b.val) / 128 = a.val; omega), if_pos (by show (128 * a.val + b.val) % 128 = b.val; omega), one_mul, mul_one]
  · intro r _ hr
    rw [pack_at, diag_at]
    by_cases h1 : r.val / 128 = a.val
    · rw [if_neg (c := r.val % 128 = b.val) (fun h2 => hr (Fin.ext (by show r.val = 128 * a.val + b.val; omega))), mul_zero, mul_zero]
    · rw [if_neg h1, zero_mul]
  · exact fun h => absurd (Finset.mem_univ _) h

/-- A head added to the output: its rows divided by the sums of the weights, unpacked, times the output weights. -/
theorem fin_at (o : FVec Ideal S256x1024 .f32) (n : FVec Ideal S258x128 .f32) (w : Vec Ideal S128x1024 .bf16) (i : Fin 256) (j : Fin 1024) :
    finVal o n w (ix2 i j) = o (ix2 i j) + ∑ e : Fin 128, Ideal.div (n (ix2 ⟨i.val, by omega⟩ e))
      (n (ix2 ⟨256 + i.val / 128, by omega⟩ ⟨i.val % 128, by omega⟩)) * w (ix2 e j) := by
  have e : finVal o n w (ix2 i j) = o (ix2 i j) + ∑ e : Fin 128, Ideal.div (n (ix2 ⟨i.val, by omega⟩ e))
      (∑ b : Fin 128, (∑ a : Fin 2, (unpackVal (F := Ideal)) (ix2 i a) * n (ix2 ⟨256 + a.val, by omega⟩ b)) * (diagVal (F := Ideal)) (ix2 i b)) * w (ix2 e j) := by
    unfold finVal
    generalize unpackVal (F := Ideal) = A
    generalize diagVal (F := Ideal) = B
    pointwise
  have l : (∑ b : Fin 128, (∑ a : Fin 2, (unpackVal (F := Ideal)) (ix2 i a) * n (ix2 ⟨256 + a.val, by omega⟩ b)) * (diagVal (F := Ideal)) (ix2 i b))
      = n (ix2 ⟨256 + i.val / 128, by omega⟩ ⟨i.val % 128, by omega⟩) := by
    rw [Finset.sum_eq_single (⟨i.val % 128, by omega⟩ : Fin 128)]
    · rw [diag_at, if_pos rfl, mul_one, Finset.sum_eq_single (⟨i.val / 128, by omega⟩ : Fin 2)]
      · rw [unpack_at, if_pos rfl, one_mul]
      · intro a _ ha
        rw [unpack_at, if_neg (fun h => ha (Fin.ext h.symm)), zero_mul]
      · exact fun h => absurd (Finset.mem_univ _) h
    · intro b _ hb
      rw [diag_at, if_neg (fun h => hb (Fin.ext h.symm)), mul_zero]
    · exact fun h => absurd (Finset.mem_univ _) h
  rw [e, l]

end Cert.Meet

end
-- ==== Proof.Value.Sums.lean ====
/- What the exchange adds up: after the four stages a device holds the sum of every device's partial. -/
module

public import proofs.«01_k».proof.Proof.Value.Masks

@[expose] public section

set_option maxRecDepth 16384

noncomputable section

namespace Cert.Meet

open Idealize.ShloMosaic Cert.KernelIdeal Cert.KernelIdeal.Gen Cert.KernelIdeal.Flow

/-- The devices whose partials a device holds after `s` stages of flow `h`. -/
def heard (h : Fin 8) : ℕ → Dev nD → Finset (Dev nD)
  | 0, c => {c}
  | s + 1, c => heard h s c ∪ heard h s (peer h ⟨s % 4, Nat.mod_lt _ (by decide)⟩ c)

/-- What a device and its partner have heard do not overlap. -/
theorem heard_apart : ∀ (h : Fin 8) (s : Fin 4) (c : Dev nD), Disjoint (heard h s.val c) (heard h s.val (peer h ⟨s.val % 4, Nat.mod_lt _ (by decide)⟩ c)) := by
  decide +kernel
/-- After four stages every device is heard. -/
theorem heard_all : ∀ (h : Fin 8) (c : Dev nD), heard h 4 c = Finset.univ := by decide +kernel

variable (P : Dev nD → Fin 8 → FVec Ideal S258x128 .f32) (h : Fin 8)

/-- A partial is the sum of those heard. -/
theorem part_sum (i : S258x128.Idx) : ∀ (s : ℕ) (hs : s ≤ 4) (c : Dev nD), part P h s c i = ∑ d ∈ heard h s c, (P d h i : EReal)
  | 0, _, c => by rw [heard, Finset.sum_singleton]; rfl
  | s + 1, hs, c => by
    rw [heard, Finset.sum_union (heard_apart h ⟨s, hs⟩ c), ← part_sum i s (Nat.le_of_succ_le hs) c, ← part_sum i s (Nat.le_of_succ_le hs)]
    rfl

/-- **The exchange**: every device ends with the sum over all sixteen. -/
theorem total_sum (c : Dev nD) (i : S258x128.Idx) : total P c h i = ∑ d : Dev nD, (P d h i : EReal) := by
  rw [← heard_all h c]
  exact part_sum P h i 4 le_rfl c

end Cert.Meet

end
-- ==== Proof.Value.Result.lean ====
/- The kernel's result, read at an index, in terms of the arguments of every device. -/
module

public import proofs.«01_k».proof.Proof.KernelIdeal.Final
public import proofs.«01_k».proof.Proof.Value.Sums

@[expose] public section

set_option maxRecDepth 16384

noncomputable section

namespace Cert.Meet

open Idealize.ShloMosaic Cert.KernelIdeal Cert.KernelIdeal.Gen Cert.KernelIdeal.Flow

/-- A group's columns. -/
theorem group_at (k : Vec Ideal S4096x256 .bf16) (g : Fin 2) (j : Fin 4096) (e : Fin 128) :
    group k g (ix2 j e) = k (ix2 j ⟨128 * g.val + e.val, by omega⟩) := by
  refine congrArg k ?_
  funext a
  apply Fin.ext
  match a with
  | 0 => show 0 + 1 * j.val = j.val; omega
  | 1 => show 128 * g.val + 1 * e.val = 128 * g.val + e.val; omega

/-- A head's rows of the output weights. -/
theorem wo_at (w : Vec Ideal S1024x1024 .bf16) (h : Fin 8) (e : Fin 128) (n : Fin 1024) :
    w ((woR h).emb (ix2 e n : S128x1024.Idx)) = w (ix2 ⟨128 * h.val + e.val, by omega⟩ n) := by
  refine congrArg w ?_
  funext a
  apply Fin.ext
  match a with
  | 0 => show 128 * h.val + 1 * e.val = 128 * h.val + e.val; omega
  | 1 => show 0 + 1 * n.val = n.val; omega

section Own

variable (x : Vec Ideal S256x1024 .bf16) (wq : Vec Ideal S1024x1024 .bf16) (k v : Vec Ideal S4096x256 .bf16) (h : Fin 8)

/-- The weight of key `j` of one device for query row `i`, in head `h`. -/
def weight (i : Fin 256) (j : Fin 4096) : EReal :=
  Ideal.exp (∑ e : Fin 128, (∑ r : Fin 1024, x (ix2 i r) * wq (ix2 r ⟨128 * h.val + e.val, by omega⟩)) * (scale : EReal)
    * k (ix2 j ⟨128 * (grp h).val + e.val, by omega⟩))

/-- Weights times values and ones. -/
theorem head_at (i d : Fin 256) :
    pvVal h (qVal x wq) (keyVal (group k (grp h))) (valVal (group v (grp h))) (ix2 i d)
      = ∑ j : Fin 4096, weight x wq k h i j * (if hd : d.val < 128 then v (ix2 j ⟨128 * (grp h).val + d.val, by omega⟩) else 1) := by
  rw [pv_at]
  refine Finset.sum_congr rfl fun j _ => ?_
  rw [val_at]
  congr 1
  · unfold weight
    refine congrArg Ideal.exp (Finset.sum_congr rfl fun e _ => ?_)
    rw [q_at, key_at, group_at]
  · split
    · rw [group_at]
    · rfl

/-- The rows of a partial with the weighted values. -/
theorem own_top (i : Fin 256) (e : Fin 128) :
    own x wq k v h (ix2 ⟨i.val, by omega⟩ e) = ∑ j : Fin 4096, weight x wq k h i j * v (ix2 j ⟨128 * (grp h).val + e.val, by omega⟩) := by
  unfold own partial₀
  rw [stack_top _ _ _ i e rfl rfl]
  refine Eq.trans ?_ ((head_at x wq k v h i ⟨e.val, by omega⟩).trans (Finset.sum_congr rfl fun j _ => by rw [dif_pos (show e.val < 128 from e.isLt)]))
  generalize pvVal h (qVal x wq) (keyVal (group k (grp h))) (valVal (group v (grp h))) = pv
  pointwise [topVal]

/-- Its last two rows, with the sums of the weights. -/
theorem own_low (i : Fin 256) :
    own x wq k v h (ix2 ⟨256 + i.val / 128, by omega⟩ ⟨i.val % 128, by omega⟩) = ∑ j : Fin 4096, weight x wq k h i j := by
  unfold own partial₀
  rw [stack_low _ _ _ ⟨i.val / 128, by omega⟩ ⟨i.val % 128, by omega⟩ rfl rfl]
  refine (low_at _ ⟨i.val / 128, by omega⟩ ⟨i.val % 128, by omega⟩).trans ?_
  rw [head_at]
  refine Finset.sum_congr rfl fun j _ => ?_
  rw [dif_neg (by show ¬ 128 + i.val % 128 < 128; omega), mul_one]
  congr 1
  exact Fin.ext (by show 128 * (i.val / 128) + i.val % 128 = i.val; omega)

end Own

variable (m : (ℓ : Loc nD τ sig) → Buf (Elt Ideal) ℓ)

/-- Key `j` of device `d`: its weight for query row `i` in head `h`. -/
abbrev weightOf (d : Dev nD) (h : Fin 8) (i : Fin 256) (j : Fin 4096) : EReal :=
  weight (argX m d) (m (d.tc.loc main_arg1)) (argK m d) h i j

/-- A head's share of the result: the quotient of the sums over every device, times the head's output weights. -/
def share (c : Dev nD) (i : Fin 256) (n : Fin 1024) (h : Fin 8) : EReal :=
  ∑ e : Fin 128, Ideal.div
    (∑ d : Dev nD, ∑ j : Fin 4096, weightOf m d h i j * argV m d (ix2 j ⟨128 * (grp h).val + e.val, by omega⟩))
    (∑ d : Dev nD, ∑ j : Fin 4096, weightOf m d h i j) * m (c.tc.loc main_arg4) (ix2 ⟨128 * h.val + e.val, by omega⟩ n)

/-- A flow's last step adds the head's share. -/
theorem add_share (c : Dev nD) (o : FVec Ideal S256x1024 .f32) (h : Fin 8) (i : Fin 256) (n : Fin 1024) :
    finVal o (total (devParts m) c h) (fun j => (m (c.tc.loc main_arg4) : Vec Ideal S1024x1024 .bf16) ((woR h).emb j)) (ix2 i n)
      = o (ix2 i n) + share m c i n h := by
  rw [fin_at]
  refine congrArg (o (ix2 i n) + ·) (Finset.sum_congr rfl fun e _ => ?_)
  rw [total_sum, total_sum]
  refine congrArg₂ (· * ·) (congrArg₂ Ideal.div (Finset.sum_congr rfl fun d _ => ?_) (Finset.sum_congr rfl fun d _ => ?_)) ?_
  · exact own_top _ _ _ _ h i e
  · exact own_low _ _ _ _ h i
  · exact wo_at _ h e n

/-- **The kernel's result**: the heads' shares. -/
theorem answer_at (c : Dev nD) (i : Fin 256) (n : Fin 1024) : @Eq EReal (answer m c (ix3 0 i n)) (∑ h : Fin 8, share m c i n h) := by
  have e : answer m c (ix3 0 i n) = outVal (devParts m) c (m (c.tc.loc main_arg4)) (ix2 i n) := by
    unfold answer
    generalize outVal (devParts m) c (m (c.tc.loc main_arg4)) = o
    pointwise
  rw [e]
  unfold outVal flows
  simp only [List.foldl_cons, List.foldl_nil, add_share]
  rw [Fin.sum_univ_eight]
  have z : (broadcast S256x1024 (Scalar.ofBits .f32 0x00000000#32) : FVec Ideal S256x1024 .f32) (ix2 i n) = (0 : EReal) := by
    pointwise
  rw [z, zero_add]

end Cert.Meet

end
-- ==== Proof.Value.Agree.lean ====
/- The two results are the same, where the scores are finite. -/
module

public import proofs.«01_k».proof.Defs
public import proofs.«01_k».proof.Proof.Gen.Pre_finite_KernelIdeal
public import proofs.«01_k».proof.Proof.Value.Reference
public import proofs.«01_k».proof.Proof.Value.Result
public import Idealize.ShloMosaic.Lib.ReduceAll

@[expose] public section

set_option maxRecDepth 16384

noncomputable section

namespace Cert.Meet

open Idealize.ShloMosaic

/-- The memories of the two programs. -/
abbrev KMem := (ℓ : Loc KernelIdeal.nD KernelIdeal.τ KernelIdeal.sig) → Buf (Elt Ideal) ℓ
abbrev RMem := (ℓ : Loc ReferenceIdeal.nD ReferenceIdeal.τ ReferenceIdeal.sig) → Buf (Elt Ideal) ℓ

/-! ## Sums over blocks -/

/-- A sum over `a * b` numbers, block by block. -/
theorem sum_blocks (a b n : ℕ) (hn : n = a * b) (f : Fin n → EReal) :
    ∑ t, f t = ∑ s : Fin a, ∑ r : Fin b, f ⟨b * s.val + r.val, hn ▸ (by
      have h1 := s.isLt; have h2 := r.isLt
      calc b * s.val + r.val < b * s.val + b := by omega
        _ = (s.val + 1) * b := by ring
        _ ≤ a * b := Nat.mul_le_mul_right b h1)⟩ := by
  subst hn
  rw [← finProdFinEquiv.sum_comp, Fintype.sum_prod_type]
  refine Finset.sum_congr rfl fun s _ => Finset.sum_congr rfl fun r _ => congrArg f (Fin.ext ?_)
  show r.val + b * s.val = b * s.val + r.val
  omega

/-! ## The arguments -/

/-- The kernel's arguments are the reference's: the keys and the values cut into one block per device. -/
def Same (m : KMem) (m' : RMem) : Prop :=
  ∀ c : Dev KernelIdeal.nD,
    m (c.tc.loc KernelIdeal.main_arg0) = m' ((0 : Dev ReferenceIdeal.nD).tc.loc ReferenceIdeal.main_arg0)
    ∧ m (c.tc.loc KernelIdeal.main_arg1) = m' ((0 : Dev ReferenceIdeal.nD).tc.loc ReferenceIdeal.main_arg1)
    ∧ m (c.tc.loc KernelIdeal.main_arg2) = Layout.block ⟨4, ![1, 4096, 2, 128]⟩ ⟨4, ![1, 65536, 2, 128]⟩ 1 16 c
        (m' ((0 : Dev ReferenceIdeal.nD).tc.loc ReferenceIdeal.main_arg2))
    ∧ m (c.tc.loc KernelIdeal.main_arg3) = Layout.block ⟨4, ![1, 4096, 2, 128]⟩ ⟨4, ![1, 65536, 2, 128]⟩ 1 16 c
        (m' ((0 : Dev ReferenceIdeal.nD).tc.loc ReferenceIdeal.main_arg3))
    ∧ m (c.tc.loc KernelIdeal.main_arg4) = m' ((0 : Dev ReferenceIdeal.nD).tc.loc ReferenceIdeal.main_arg4)

/-- A device's block of the keys or the values, at an index. -/
theorem block_at (c : Fin 16) (v : (⟨4, ![1, 65536, 2, 128]⟩ : Shape).Idx → EReal) (j : Fin 4096) (g : Fin 2) (e : Fin 128) :
    Layout.block ⟨4, ![1, 4096, 2, 128]⟩ ⟨4, ![1, 65536, 2, 128]⟩ 1 16 c v (by decide) (ix4 0 j g e)
      = v (ix4 0 ⟨4096 * c.val + j.val, by omega⟩ g e) := by
  rw [Layout.block_apply]
  refine congrArg v ?_
  funext a
  apply Fin.ext
  match a with
  | 0 => rfl
  | 1 => show c.val * 4096 + j.val = 4096 * c.val + j.val; omega
  | 2 => rfl
  | 3 => rfl

/-- The queries without their axis of one. -/
theorem drop_at (v : Vec Ideal KernelIdeal.S1x256x1024 .bf16) (i : Fin 256) (k : Fin 1024) :
    shapeCast KernelIdeal.S256x1024 v KernelIdeal.Gen.shapeCasts_S1x256x1024_S256x1024 (ix2 i k) = v (ix3 0 i k) := by
  pointwise
/-- The keys or the values with a group's columns side by side. -/
theorem flat_at (v : Vec Ideal KernelIdeal.S1x4096x2x128 .bf16) (j : Fin 4096) (n : Fin 256) :
    shapeCast KernelIdeal.S4096x256 v KernelIdeal.Gen.shapeCasts_S1x4096x2x128_S4096x256 (ix2 j n)
      = v (ix4 0 j ⟨n.val / 128, by omega⟩ ⟨n.val % 128, by omega⟩) := by
  pointwise

section

variable (m : KMem) (m' : RMem) (hs : Same m m')
include hs

/-- A query entry of a device is the reference's. -/
theorem x_at (d : Dev KernelIdeal.nD) (i : Fin 256) (k : Fin 1024) :
    @Eq EReal (KernelIdeal.Flow.argX m d (ix2 i k)) (atX m' 0 i k) :=
  (drop_at _ i k).trans (congrFun (hs d).1 _)

/-- A key entry of a device is the reference's, `4096` rows further along for each device before it. -/
theorem k_at (d : Dev KernelIdeal.nD) (j : Fin 4096) (n : Fin 256) :
    @Eq EReal (KernelIdeal.Flow.argK m d (ix2 j n)) (atK m' 0 ⟨4096 * d.val + j.val, by have := d.isLt; change d.val < 16 at this; omega⟩
      ⟨n.val / 128, by omega⟩ ⟨n.val % 128, by omega⟩) :=
  (flat_at _ j n).trans ((congrFun (hs d).2.2.1 _).trans (block_at d _ j _ _))

/-- A value entry likewise. -/
theorem v_at (d : Dev KernelIdeal.nD) (j : Fin 4096) (n : Fin 256) :
    @Eq EReal (KernelIdeal.Flow.argV m d (ix2 j n)) (atV m' 0 ⟨4096 * d.val + j.val, by have := d.isLt; change d.val < 16 at this; omega⟩
      ⟨n.val / 128, by omega⟩ ⟨n.val % 128, by omega⟩) :=
  (flat_at _ j n).trans ((congrFun (hs d).2.2.2.1 _).trans (block_at d _ j _ _))

end

/-- The group of a head is its number divided by four. -/
theorem grp_val : ∀ h : Fin 8, (KernelIdeal.Flow.grp h).val = h.val / 4 := by decide

/-! ## One key -/

section

variable (m : KMem) (m' : RMem) (hs : Same m m') (d : Dev KernelIdeal.nD) (h : Fin 8) (i : Fin 256) (j : Fin 4096) (e : Fin 128)

/-- Key `j` of device `d` among all the keys. -/
def keyOf (d : Dev KernelIdeal.nD) (j : Fin 4096) : Fin 65536 :=
  ⟨4096 * d.val + j.val, by have := d.isLt; change d.val < 16 at this; omega⟩
/-- Column `e` of head `h` among all the columns. -/
def colOf (h : Fin 8) (e : Fin 128) : Fin 1024 := ⟨128 * h.val + e.val, by omega⟩

include hs in
/-- A key's weight in the kernel is the exponential of its score in the reference. -/
theorem weight_eq : weightOf m d h i j = Ideal.exp (score m' 0 i (colOf h e) (keyOf d j)) := by
  unfold weightOf weight score
  rw [scale_out _ _ scale scale_pos]
  refine congrArg (fun t : EReal => Ideal.exp (t * (scale : EReal))) (Finset.sum_congr rfl fun l _ => ?_)
  refine congrArg₂ (· * ·) (Finset.sum_congr rfl fun r _ => congrArg₂ (· * ·) (x_at m m' hs d i r) ?_) ?_
  · rw [(hs d).2.1]
    refine congrArg (atWq m' 0 r) (Fin.ext ?_)
    show 128 * h.val + l.val = (128 * h.val + e.val) / 128 * 128 + l.val
    omega
  · refine (k_at m m' hs d j _).trans (congrArg₂ (atK m' 0 (keyOf d j)) (Fin.ext ?_) (Fin.ext ?_))
    · show (128 * (KernelIdeal.Flow.grp h).val + l.val) / 128 = (128 * h.val + e.val) / 128 / 4
      rw [grp_val]
      omega
    · show (128 * (KernelIdeal.Flow.grp h).val + l.val) % 128 = l.val
      omega

include hs in
/-- Its value is the reference's. -/
theorem value_eq : @Eq EReal (KernelIdeal.Flow.argV m d (ix2 j ⟨128 * (KernelIdeal.Flow.grp h).val + e.val, by omega⟩)) (value m' 0 (colOf h e) (keyOf d j)) := by
  refine (v_at m m' hs d j _).trans (congrArg₂ (atV m' 0 (keyOf d j)) (Fin.ext ?_) (Fin.ext ?_))
  · show (128 * (KernelIdeal.Flow.grp h).val + e.val) / 128 = (128 * h.val + e.val) / 128 / 4
    rw [grp_val]
    omega
  · show (128 * (KernelIdeal.Flow.grp h).val + e.val) % 128 = (128 * h.val + e.val) % 128
    omega

end

/-- A sum over every key, device by device. -/
theorem sum_keys (f : Fin 65536 → EReal) : ∑ t, f t = ∑ d : Dev KernelIdeal.nD, ∑ j : Fin 4096, f (keyOf d j) :=
  sum_blocks 16 4096 65536 rfl f
/-- A sum over every column, head by head. -/
theorem sum_cols (f : Fin 1024 → EReal) : ∑ t, f t = ∑ h : Fin 8, ∑ e : Fin 128, f (colOf h e) :=
  sum_blocks 8 128 1024 rfl f

/-! ## The precondition -/

/-- A number of magnitude below infinity is finite. -/
theorem finite_of_lt (a : EReal) (h : max a (-a) < ⊤) : IsFinite a := by
  have h1 : a ≠ ⊤ := fun e => by subst e; simp at h
  have h2 : a ≠ ⊥ := fun e => by subst e; simp at h
  exact ⟨a.toReal, (EReal.coe_toReal h1 h2).symm⟩

/-- The word that the precondition compares with is infinity. -/
theorem top_word : Ideal.ofBits .bf16 0x7F80#16 = ⊤ := by
  simp [Ideal.ofBits, Ideal.ieee]

/-- A comparison's bit that is one says that it holds. -/
theorem lt_of_bit (a b : EReal) (h : Ideal.cmp .olt a b = 1#1) : a < b := by
  by_contra hn
  rw [Ideal.cmp_olt, decide_eq_false hn] at h
  exact absurd h (by decide)

/-- An array all of whose magnitudes compare below infinity has finite entries. -/
theorem all_finite {s : Shape} {axes : List (Fin s.rank)} (a : FVec Ideal s .bf16) (hb : Pre_finite_KernelIdeal.S_.BroadcastsInDim s ![])
    (hr : s.ReducesTo axes Pre_finite_KernelIdeal.S_) (hu : 0 < Pre_finite_KernelIdeal.S_.numel)
    (h : Host.reduce IntOp.andi (cmpf .olt (Host.absf a) (broadcastInDim s ![] hb (constant (F := Ideal) Pre_finite_KernelIdeal.S_ .bf16 0x7F80#16)))
      (constantI Pre_finite_KernelIdeal.S_ 1 1#1) hr hu = fun _ => 1#1) (i : s.Idx) : IsFinite (a i) := by
  have sub : Subsingleton Pre_finite_KernelIdeal.S_.Idx := ⟨fun a b => funext fun k => k.elim0⟩
  have := Host.reduce_andi_all _ _ _ _ (fun k => k.elim0) (congrFun h fun k => k.elim0) i
  refine finite_of_lt _ ?_
  rw [← top_word]
  exact lt_of_bit _ _ this

/-- Under the precondition the queries' and the keys' factors are finite on every device. -/
theorem finite_args (m : KMem) (hp : Pre_KernelIdeal_finite_KernelIdeal m) (d : Dev KernelIdeal.nD) :
    (∀ i, IsFinite (m (d.tc.loc KernelIdeal.main_arg0) i)) ∧ (∀ i, IsFinite (m (d.tc.loc KernelIdeal.main_arg1) i))
      ∧ (∀ i, IsFinite (m (d.tc.loc KernelIdeal.main_arg2) i)) := by
  obtain ⟨h0, h1, h2⟩ := hp d
  dsimp only [Pre_finite_KernelIdeal.fn] at h0 h1 h2
  exact ⟨all_finite _ _ _ _ h0, all_finite _ _ _ _ h1, all_finite _ _ _ _ h2⟩

/-- So every score is finite. -/
theorem finite_score (m : KMem) (m' : RMem) (hs : Same m m') (hp : Pre_KernelIdeal_finite_KernelIdeal m) (i : Fin 256) (x : Fin 1024) (j : Fin 65536) :
    IsFinite (score m' 0 i x j) := by
  refine IsFinite.mul (IsFinite.sum _ fun e => IsFinite.mul (IsFinite.sum _ fun k => IsFinite.mul ?_ ?_) ?_) ⟨scale, rfl⟩
  · have := (finite_args m hp 0).1 (ix3 0 i k)
    rwa [(hs 0).1] at this
  · have := (finite_args m hp 0).2.1 (ix2 k ⟨x.val / 128 * 128 + e.val, by omega⟩)
    rwa [(hs 0).2.1] at this
  · have hj := j.isLt
    have := (finite_args m hp ⟨j.val / 4096, by show j.val / 4096 < 16; omega⟩).2.2 (ix4 0 ⟨j.val % 4096, by omega⟩ ⟨x.val / 128 / 4, by omega⟩ e)
    rw [(hs _).2.2.1] at this
    rw [show atK m' 0 j ⟨x.val / 128 / 4, by omega⟩ e = _ from ?_]
    · exact this
    · refine Eq.trans ?_ (block_at _ _ _ _ _).symm
      refine congrArg (fun t => atK m' 0 t ⟨x.val / 128 / 4, by omega⟩ e) (Fin.ext ?_)
      show j.val = 4096 * (j.val / 4096) + j.val % 4096
      omega

/-! ## The results -/

/-- **The kernel's result on every device is the reference's.** -/
theorem agree (m : KMem) (m' : RMem) (hs : Same m m') (hp : Pre_KernelIdeal_finite_KernelIdeal m) (c : Dev KernelIdeal.nD) :
    KernelIdeal.Flow.answer m c = ReferenceIdeal.Value.res_main_v27 m' 0 := by
  funext p
  obtain ⟨z, i, n, rfl⟩ : ∃ (z : Fin 1) (i : Fin 256) (n : Fin 1024), p = ix3 z i n := ⟨p 0, p 1, p 2, eq_ix3 p⟩
  obtain rfl : z = 0 := Subsingleton.elim _ _
  refine (answer_at m c i n).trans (Eq.trans ?_ (ref_plain m' 0 (finite_score m m' hs hp) i n).symm)
  rw [sum_cols]
  refine Finset.sum_congr rfl fun h _ => ?_
  unfold share
  refine Finset.sum_congr rfl fun e _ => ?_
  rw [sum_keys, sum_keys]
  refine congrArg₂ (· * ·) (congrArg₂ Ideal.div (Finset.sum_congr rfl fun d _ => Finset.sum_congr rfl fun j _ => ?_)
    (Finset.sum_congr rfl fun d _ => Finset.sum_congr rfl fun j _ => ?_)) ?_
  · rw [weight_eq m m' hs d h i j e]
    exact congrArg (_ * ·) (value_eq m m' hs d h j e)
  · exact weight_eq m m' hs d h i j e
  · rw [(hs c).2.2.2.2]
    rfl

end Cert.Meet

end
-- ==== Proof.lean ====
/- The claim: both printings of the kernel and the reference end with their arguments unchanged and every counter
   at zero, and over the extended reals the kernel's result on every device is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Kernel.Final
public import proofs.«01_k».proof.Proof.KernelIdeal.Final
public import proofs.«01_k».proof.Proof.Value.Agree
public import Idealize.ShloMosaic.Lib.Quiescent

@[expose] public section

noncomputable section

namespace Cert.Proof

open Idealize.ShloMosaic Idealize.SL.Sem

/-- The kernel over machine words ends quietly. -/
theorem kernel_quiet : Cert.quiescent_Kernel := fun m g _ =>
  (θ_run _ _ _).mono (fun _ h => ⟨fun c => (h.1 c).2, h.2⟩) (Cert.Kernel.Flow.ends m g)

/-- The kernel over the extended reals ends quietly. -/
theorem ideal_quiet : Cert.quiescent_KernelIdeal := fun m g _ =>
  (θ_run _ _ _).mono (fun _ h => ⟨fun c => (h.1 c).2, h.2⟩) (Cert.KernelIdeal.Flow.ends m g)

/-- The reference ends quietly: it has no counters. -/
theorem reference_quiet : Cert.quiescent_ReferenceIdeal := fun m g _ =>
  (θ_run _ _ _).mono (fun r h => ⟨fun c => (h c).2, sem_eq_zero_of_no_sems (by decide) r.2⟩) (Cert.ReferenceIdeal.Value.run m g)

/-- The one constant named in the idealized kernel, the scale, denotes one over the root of 128. -/
theorem scale_named : Cert.preserves_Kernel_KernelIdeal :=
  IdealRules.named_const.statement Cert.KernelIdeal.κ "inv_sqrt_d" .f32 0x3DB504F3#32 (((Real.sqrt 128)⁻¹ : ℝ) : EReal) rfl

/-- The results agree. -/
theorem results_agree : Cert.algebraic_KernelIdeal_ReferenceIdeal_pre_finite_KernelIdeal := fun m g m' g' hp hs =>
  ⟨Cert.ReferenceIdeal.Value.res_main_v27 m' 0,
    (θ_run _ _ _).mono (fun _ h c => ⟨(h.1 c).1.trans (Cert.Meet.agree m m' hs hp c), (h.1 c).2⟩) (Cert.KernelIdeal.Flow.ends m g),
    (θ_run _ _ _).mono (fun _ h => h 0) (Cert.ReferenceIdeal.Value.run m' g')⟩

/-- Everything claimed. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    kernel_quiet, ideal_quiet, fun m g _ => ideal_quiet m g trivial, reference_quiet, fun m g _ => reference_quiet m g trivial,
    scale_named, results_agree⟩

end Cert.Proof

end
